-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x8192x4096 : Shape := ⟨3, ![4, 8192, 4096]⟩
abbrev S2816x4096 : Shape := ⟨2, ![2816, 4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S2816x4096 : S_.BroadcastsInDim S2816x4096 (![] : Fin 0 → Fin S2816x4096.rank)
  reducesTo_S2816x4096_S_d0_1 : S2816x4096.ReducesTo [0, 1] S_

variable [Facts]

def fn {F : FTy → Type} [FloatOps F] (main_arg0 : FVec F S4x8192x4096 .bf16) (main_arg1 : FVec F S2816x4096 .bf16) : IVec S_ 1 :=
  let main_v0 : FVec F S4x8192x4096 .bf16 := Host.absf main_arg0
  let main_cst : FVec F S_ .bf16 := constant S_ .bf16 0x7F7F#16
  let main_v1 : FVec F S4x8192x4096 .bf16 := broadcastInDim S4x8192x4096 ![] bcast_S_S4x8192x4096 main_cst
  let main_v2 : IVec S4x8192x4096 1 := cmpf .ole main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S2816x4096 .bf16 := Host.absf main_arg1
  let main_cst_0 : FVec F S_ .bf16 := constant S_ .bf16 0x7F7F#16
  let main_v5 : FVec F S2816x4096 .bf16 := broadcastInDim S2816x4096 ![] bcast_S_S2816x4096 main_cst_0
  let main_v6 : IVec S2816x4096 1 := cmpf .ole main_v4 main_v5
  let main_c_1 : IVec S_ 1 := constantI S_ 1 1#1
  let main_v7 : IVec S_ 1 := (fun x v => Host.reduce IntOp.andi x v reducesTo_S2816x4096_S_d0_1 h_S_) main_v6 main_c_1
  let main_v8 : IVec S_ 1 := andi main_v3 main_v7
  main_v8
-- ==== Kernel.lean ====
abbrev S4x8192x4096 : Shape := ⟨3, ![4, 8192, 4096]⟩
abbrev S2816x4096 : Shape := ⟨2, ![2816, 4096]⟩
abbrev S32768x4096 : Shape := ⟨2, ![32768, 4096]⟩
abbrev S32768x2816 : Shape := ⟨2, ![32768, 2816]⟩
abbrev S1x1 : Shape := ⟨2, ![1, 1]⟩
abbrev S64x4x128 : Shape := ⟨3, ![64, 4, 128]⟩
abbrev S512x4096 : Shape := ⟨2, ![512, 4096]⟩
abbrev S512x2816 : Shape := ⟨2, ![512, 2816]⟩
abbrev S1x4x128 : Shape := ⟨3, ![1, 4, 128]⟩
abbrev S8x128 : Shape := ⟨2, ![8, 128]⟩
abbrev S11 : Shape := ⟨1, ![11]⟩
abbrev S1 : Shape := ⟨1, ![1]⟩
abbrev S_ : Shape := ⟨0, ![]⟩
abbrev S256x4096 : Shape := ⟨2, ![256, 4096]⟩
abbrev S32x128 : Shape := ⟨2, ![32, 128]⟩
abbrev S32x4096 : Shape := ⟨2, ![32, 4096]⟩
abbrev S1x32x128 : Shape := ⟨3, ![1, 32, 128]⟩
abbrev S1x1x1 : Shape := ⟨3, ![1, 1, 1]⟩
abbrev S128x128 : Shape := ⟨2, ![128, 128]⟩
abbrev S64x4096 : Shape := ⟨2, ![64, 4096]⟩
abbrev S64x128 : Shape := ⟨2, ![64, 128]⟩
abbrev S64 : Shape := ⟨1, ![64]⟩
abbrev S64x1 : Shape := ⟨2, ![64, 1]⟩
abbrev S512x128 : Shape := ⟨2, ![512, 128]⟩
abbrev S128 : Shape := ⟨1, ![128]⟩
abbrev S1x128 : Shape := ⟨2, ![1, 128]⟩
abbrev S1x1x128 : Shape := ⟨3, ![1, 1, 128]⟩
abbrev S512x256 : Shape := ⟨2, ![512, 256]⟩
abbrev S4x8192x2816 : Shape := ⟨3, ![4, 8192, 2816]⟩
abbrev S4x8192x1 : Shape := ⟨3, ![4, 8192, 1]⟩

abbrev nBuf : Space → Nat
  | .hbm => 11
  | .vmem => 12
  | .smem => 0
  | _ => 0

abbrev bufTy : (tb : Table) → Fin (tcTables nBuf tb) → BufTy
  | .hbm, ⟨0, _⟩ => ⟨S4x8192x4096, .bf16⟩
  | .hbm, ⟨1, _⟩ => ⟨S2816x4096, .bf16⟩
  | .hbm, ⟨2, _⟩ => ⟨S32768x4096, .bf16⟩
  | .hbm, ⟨3, _⟩ => ⟨S32768x2816, .bf16⟩
  | .hbm, ⟨4, _⟩ => ⟨S2816x4096, .fp8e4m3⟩
  | .hbm, ⟨5, _⟩ => ⟨S1x1, .f32⟩
  | .hbm, ⟨6, _⟩ => ⟨S32768x4096, .fp8e5m2⟩
  | .hbm, ⟨7, _⟩ => ⟨S64x4x128, .f32⟩
  | .hbm, ⟨8, _⟩ => ⟨S4x8192x2816, .bf16⟩
  | .hbm, ⟨9, _⟩ => ⟨S4x8192x4096, .fp8e5m2⟩
  | .hbm, ⟨10, _⟩ => ⟨S4x8192x1, .f32⟩
  | .local _ .vmem, ⟨0, _⟩ => ⟨S512x4096, .bf16⟩
  | .local _ .vmem, ⟨1, _⟩ => ⟨S512x4096, .bf16⟩
  | .local _ .vmem, ⟨2, _⟩ => ⟨S512x2816, .bf16⟩
  | .local _ .vmem, ⟨3, _⟩ => ⟨S512x2816, .bf16⟩
  | .local _ .vmem, ⟨4, _⟩ => ⟨S1x1, .f32⟩
  | .local _ .vmem, ⟨5, _⟩ => ⟨S512x4096, .fp8e5m2⟩
  | .local _ .vmem, ⟨6, _⟩ => ⟨S512x4096, .fp8e5m2⟩
  | .local _ .vmem, ⟨7, _⟩ => ⟨S1x4x128, .f32⟩
  | .local _ .vmem, ⟨8, _⟩ => ⟨S1x4x128, .f32⟩
  | .local _ .vmem, ⟨9, _⟩ => ⟨S2816x4096, .bf16⟩
  | .local _ .vmem, ⟨10, _⟩ => ⟨S2816x4096, .fp8e4m3⟩
  | .local _ .vmem, ⟨11, _⟩ => ⟨S8x128, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_369 : BitVec 32 := 0#32
  let c8_i32_370 : BitVec 32 := 8#32
  let v1684 : BitVec 32 := Scalar.addi c0_i32_369 c8_i32_370
  let c1_i32_371 : BitVec 32 := 1#32
  ⟨c0_i32_369, v1684, c1_i32_371⟩
def k0_off1 (k0_t1 : Fin k0_t1_loop.trips) : Fin 2 → Nat :=
  let c0_i32_593 : BitVec 32 := 0#32
  let c0_i32_369 : BitVec 32 := 0#32
  let c1_i32_371 : BitVec 32 := 1#32
  let arg13 : BitVec 32 := Scf.iv c0_i32_369 c1_i32_371 k0_t1
  let c32_i32_592 : BitVec 32 := 32#32
  let v1891 : BitVec 32 := Scalar.muli arg13 c32_i32_592
  let v1892 : BitVec 32 := Scalar.addi c0_i32_593 v1891
  let v1893 : Index := Scalar.indexCast v1892
  let c0_594 : Index := 0#32
  ![v1893.toNat, 0]
@[reducible] def k0_t2_loop : Scf.Loop 32 :=
  let c0_i32_378 : BitVec 32 := 0#32
  let c8_i32_379 : BitVec 32 := 8#32
  let v1690 : BitVec 32 := Scalar.addi c0_i32_378 c8_i32_379
  let c1_i32_380 : BitVec 32 := 1#32
  ⟨c0_i32_378, v1690, c1_i32_380⟩
def k0_off2 (k0_t2 : Fin k0_t2_loop.trips) : Fin 2 → Nat :=
  let c256_i32_593 : BitVec 32 := 256#32
  let c0_i32_378 : BitVec 32 := 0#32
  let c1_i32_380 : BitVec 32 := 1#32
  let arg13 : BitVec 32 := Scf.iv c0_i32_378 c1_i32_380 k0_t2
  let c32_i32_592 : BitVec 32 := 32#32
  let v1891 : BitVec 32 := Scalar.muli arg13 c32_i32_592
  let v1892 : BitVec 32 := Scalar.addi c256_i32_593 v1891
  let v1893 : Index := Scalar.indexCast v1892
  let c0_594 : Index := 0#32
  ![v1893.toNat, 0]
@[reducible] def k0_t3_loop : Scf.Loop 32 :=
  let c0_i32_387 : BitVec 32 := 0#32
  let c8_i32_388 : BitVec 32 := 8#32
  let v1696 : BitVec 32 := Scalar.addi c0_i32_387 c8_i32_388
  let c1_i32_389 : BitVec 32 := 1#32
  ⟨c0_i32_387, v1696, c1_i32_389⟩
def k0_off3 (k0_t3 : Fin k0_t3_loop.trips) : Fin 2 → Nat :=
  let c512_i32_593 : BitVec 32 := 512#32
  let c0_i32_387 : BitVec 32 := 0#32
  let c1_i32_389 : BitVec 32 := 1#32
  let arg13 : BitVec 32 := Scf.iv c0_i32_387 c1_i32_389 k0_t3
  let c32_i32_592 : BitVec 32 := 32#32
  let v1891 : BitVec 32 := Scalar.muli arg13 c32_i32_592
  let v1892 : BitVec 32 := Scalar.addi c512_i32_593 v1891
  let v1893 : Index := Scalar.indexCast v1892
  let c0_594 : Index := 0#32
  ![v1893.toNat, 0]
@[reducible] def k0_t4_loop : Scf.Loop 32 :=
  let c0_i32_396 : BitVec 32 := 0#32
  let c8_i32_397 : BitVec 32 := 8#32
  let v1702 : BitVec 32 := Scalar.addi c0_i32_396 c8_i32_397
  let c1_i32_398 : BitVec 32 := 1#32
  ⟨c0_i32_396, v1702, c1_i32_398⟩
def k0_off4 (k0_t4 : Fin k0_t4_loop.trips) : Fin 2 → Nat :=
  let c768_i32_593 : BitVec 32 := 768#32
  let c0_i32_396 : BitVec 32 := 0#32
  let c1_i32_398 : BitVec 32 := 1#32
  let arg13 : BitVec 32 := Scf.iv c0_i32_396 c1_i32_398 k0_t4
  let c32_i32_592 : BitVec 32 := 32#32
  let v1891 : BitVec 32 := Scalar.muli arg13 c32_i32_592
  let v1892 : BitVec 32 := Scalar.addi c768_i32_593 v1891
  let v1893 : Index := Scalar.indexCast v1892
  let c0_594 : Index := 0#32
  ![v1893.toNat, 0]
@[reducible] def k0_t5_loop : Scf.Loop 32 :=
  let c0_i32_405 : BitVec 32 := 0#32
  let c8_i32_406 : BitVec 32 := 8#32
  let v1708 : BitVec 32 := Scalar.addi c0_i32_405 c8_i32_406
  let c1_i32_407 : BitVec 32 := 1#32
  ⟨c0_i32_405, v1708, c1_i32_407⟩
def k0_off5 (k0_t5 : Fin k0_t5_loop.trips) : Fin 2 → Nat :=
  let c1024_i32_593 : BitVec 32 := 1024#32
  let c0_i32_405 : BitVec 32 := 0#32
  let c1_i32_407 : BitVec 32 := 1#32
  let arg13 : BitVec 32 := Scf.iv c0_i32_405 c1_i32_407 k0_t5
  let c32_i32_592 : BitVec 32 := 32#32
  let v1891 : BitVec 32 := Scalar.muli arg13 c32_i32_592
  let v1892 : BitVec 32 := Scalar.addi c1024_i32_593 v1891
  let v1893 : Index := Scalar.indexCast v1892
  let c0_594 : Index := 0#32
  ![v1893.toNat, 0]
@[reducible] def k0_t6_loop : Scf.Loop 32 :=
  let c0_i32_414 : BitVec 32 := 0#32
  let c8_i32_415 : BitVec 32 := 8#32
  let v1714 : BitVec 32 := Scalar.addi c0_i32_414 c8_i32_415
  let c1_i32_416 : BitVec 32 := 1#32
  ⟨c0_i32_414, v1714, c1_i32_416⟩
def k0_off6 (k0_t6 : Fin k0_t6_loop.trips) : Fin 2 → Nat :=
  let c1280_i32_593 : BitVec 32 := 1280#32
  let c0_i32_414 : BitVec 32 := 0#32
  let c1_i32_416 : BitVec 32 := 1#32
  let arg13 : BitVec 32 := Scf.iv c0_i32_414 c1_i32_416 k0_t6
  let c32_i32_592 : BitVec 32 := 32#32
  let v1891 : BitVec 32 := Scalar.muli arg13 c32_i32_592
  let v1892 : BitVec 32 := Scalar.addi c1280_i32_593 v1891
  let v1893 : Index := Scalar.indexCast v1892
  let c0_594 : Index := 0#32
  ![v1893.toNat, 0]
@[reducible] def k0_t7_loop : Scf.Loop 32 :=
  let c0_i32_423 : BitVec 32 := 0#32
  let c8_i32_424 : BitVec 32 := 8#32
  let v1720 : BitVec 32 := Scalar.addi c0_i32_423 c8_i32_424
  let c1_i32_425 : BitVec 32 := 1#32
  ⟨c0_i32_423, v1720, c1_i32_425⟩
def k0_off7 (k0_t7 : Fin k0_t7_loop.trips) : Fin 2 → Nat :=
  let c1536_i32_593 : BitVec 32 := 1536#32
  let c0_i32_423 : BitVec 32 := 0#32
  let c1_i32_425 : BitVec 32 := 1#32
  let arg13 : BitVec 32 := Scf.iv c0_i32_423 c1_i32_425 k0_t7
  let c32_i32_592 : BitVec 32 := 32#32
  let v1891 : BitVec 32 := Scalar.muli arg13 c32_i32_592
  let v1892 : BitVec 32 := Scalar.addi c1536_i32_593 v1891
  let v1893 : Index := Scalar.indexCast v1892
  let c0_594 : Index := 0#32
  ![v1893.toNat, 0]
@[reducible] def k0_t8_loop : Scf.Loop 32 :=
  let c0_i32_432 : BitVec 32 := 0#32
  let c8_i32_433 : BitVec 32 := 8#32
  let v1726 : BitVec 32 := Scalar.addi c0_i32_432 c8_i32_433
  let c1_i32_434 : BitVec 32 := 1#32
  ⟨c0_i32_432, v1726, c1_i32_434⟩
def k0_off8 (k0_t8 : Fin k0_t8_loop.trips) : Fin 2 → Nat :=
  let c1792_i32_593 : BitVec 32 := 1792#32
  let c0_i32_432 : BitVec 32 := 0#32
  let c1_i32_434 : BitVec 32 := 1#32
  let arg13 : BitVec 32 := Scf.iv c0_i32_432 c1_i32_434 k0_t8
  let c32_i32_592 : BitVec 32 := 32#32
  let v1891 : BitVec 32 := Scalar.muli arg13 c32_i32_592
  let v1892 : BitVec 32 := Scalar.addi c1792_i32_593 v1891
  let v1893 : Index := Scalar.indexCast v1892
  let c0_594 : Index := 0#32
  ![v1893.toNat, 0]
@[reducible] def k0_t9_loop : Scf.Loop 32 :=
  let c0_i32_441 : BitVec 32 := 0#32
  let c8_i32_442 : BitVec 32 := 8#32
  let v1732 : BitVec 32 := Scalar.addi c0_i32_441 c8_i32_442
  let c1_i32_443 : BitVec 32 := 1#32
  ⟨c0_i32_441, v1732, c1_i32_443⟩
def k0_off9 (k0_t9 : Fin k0_t9_loop.trips) : Fin 2 → Nat :=
  let c2048_i32_593 : BitVec 32 := 2048#32
  let c0_i32_441 : BitVec 32 := 0#32
  let c1_i32_443 : BitVec 32 := 1#32
  let arg13 : BitVec 32 := Scf.iv c0_i32_441 c1_i32_443 k0_t9
  let c32_i32_592 : BitVec 32 := 32#32
  let v1891 : BitVec 32 := Scalar.muli arg13 c32_i32_592
  let v1892 : BitVec 32 := Scalar.addi c2048_i32_593 v1891
  let v1893 : Index := Scalar.indexCast v1892
  let c0_594 : Index := 0#32
  ![v1893.toNat, 0]
@[reducible] def k0_t10_loop : Scf.Loop 32 :=
  let c0_i32_450 : BitVec 32 := 0#32
  let c8_i32_451 : BitVec 32 := 8#32
  let v1738 : BitVec 32 := Scalar.addi c0_i32_450 c8_i32_451
  let c1_i32_452 : BitVec 32 := 1#32
  ⟨c0_i32_450, v1738, c1_i32_452⟩
def k0_off10 (k0_t10 : Fin k0_t10_loop.trips) : Fin 2 → Nat :=
  let c2304_i32_593 : BitVec 32 := 2304#32
  let c0_i32_450 : BitVec 32 := 0#32
  let c1_i32_452 : BitVec 32 := 1#32
  let arg13 : BitVec 32 := Scf.iv c0_i32_450 c1_i32_452 k0_t10
  let c32_i32_592 : BitVec 32 := 32#32
  let v1891 : BitVec 32 := Scalar.muli arg13 c32_i32_592
  let v1892 : BitVec 32 := Scalar.addi c2304_i32_593 v1891
  let v1893 : Index := Scalar.indexCast v1892
  let c0_594 : Index := 0#32
  ![v1893.toNat, 0]
@[reducible] def k0_t11_loop : Scf.Loop 32 :=
  let c0_i32_459 : BitVec 32 := 0#32
  let c8_i32_460 : BitVec 32 := 8#32
  let v1744 : BitVec 32 := Scalar.addi c0_i32_459 c8_i32_460
  let c1_i32_461 : BitVec 32 := 1#32
  ⟨c0_i32_459, v1744, c1_i32_461⟩
def k0_off11 (k0_t11 : Fin k0_t11_loop.trips) : Fin 2 → Nat :=
  let c2560_i32_593 : BitVec 32 := 2560#32
  let c0_i32_459 : BitVec 32 := 0#32
  let c1_i32_461 : BitVec 32 := 1#32
  let arg13 : BitVec 32 := Scf.iv c0_i32_459 c1_i32_461 k0_t11
  let c32_i32_592 : BitVec 32 := 32#32
  let v1891 : BitVec 32 := Scalar.muli arg13 c32_i32_592
  let v1892 : BitVec 32 := Scalar.addi c2560_i32_593 v1891
  let v1893 : Index := Scalar.indexCast v1892
  let c0_594 : Index := 0#32
  ![v1893.toNat, 0]
@[reducible] def k0_t12_loop : Scf.Loop 32 :=
  let c0_i32_493 : BitVec 32 := 0#32
  let c8_i32_494 : BitVec 32 := 8#32
  let v1836 : BitVec 32 := Scalar.addi c0_i32_493 c8_i32_494
  let c1_i32_495 : BitVec 32 := 1#32
  ⟨c0_i32_493, v1836, c1_i32_495⟩
def k0_off12 (k0_t12 : Fin k0_t12_loop.trips) : Fin 2 → Nat :=
  let c0_i32_593 : BitVec 32 := 0#32
  let c0_i32_493 : BitVec 32 := 0#32
  let c1_i32_495 : BitVec 32 := 1#32
  let arg13 : BitVec 32 := Scf.iv c0_i32_493 c1_i32_495 k0_t12
  let c32_i32_592 : BitVec 32 := 32#32
  let v1891 : BitVec 32 := Scalar.muli arg13 c32_i32_592
  let v1892 : BitVec 32 := Scalar.addi c0_i32_593 v1891
  let v1893 : Index := Scalar.indexCast v1892
  let c0_594 : Index := 0#32
  ![v1893.toNat, 0]
@[reducible] def k0_t13_loop : Scf.Loop 32 :=
  let c0_i32_502 : BitVec 32 := 0#32
  let c8_i32_503 : BitVec 32 := 8#32
  let v1841 : BitVec 32 := Scalar.addi c0_i32_502 c8_i32_503
  let c1_i32_504 : BitVec 32 := 1#32
  ⟨c0_i32_502, v1841, c1_i32_504⟩
def k0_off13 (k0_t13 : Fin k0_t13_loop.trips) : Fin 2 → Nat :=
  let c256_i32_593 : BitVec 32 := 256#32
  let c0_i32_502 : BitVec 32 := 0#32
  let c1_i32_504 : BitVec 32 := 1#32
  let arg13 : BitVec 32 := Scf.iv c0_i32_502 c1_i32_504 k0_t13
  let c32_i32_592 : BitVec 32 := 32#32
  let v1891 : BitVec 32 := Scalar.muli arg13 c32_i32_592
  let v1892 : BitVec 32 := Scalar.addi c256_i32_593 v1891
  let v1893 : Index := Scalar.indexCast v1892
  let c0_594 : Index := 0#32
  ![v1893.toNat, 0]
@[reducible] def k0_t14_loop : Scf.Loop 32 :=
  let c0_i32_511 : BitVec 32 := 0#32
  let c8_i32_512 : BitVec 32 := 8#32
  let v1846 : BitVec 32 := Scalar.addi c0_i32_511 c8_i32_512
  let c1_i32_513 : BitVec 32 := 1#32
  ⟨c0_i32_511, v1846, c1_i32_513⟩
def k0_off14 (k0_t14 : Fin k0_t14_loop.trips) : Fin 2 → Nat :=
  let c512_i32_593 : BitVec 32 := 512#32
  let c0_i32_511 : BitVec 32 := 0#32
  let c1_i32_513 : BitVec 32 := 1#32
  let arg13 : BitVec 32 := Scf.iv c0_i32_511 c1_i32_513 k0_t14
  let c32_i32_592 : BitVec 32 := 32#32
  let v1891 : BitVec 32 := Scalar.muli arg13 c32_i32_592
  let v1892 : BitVec 32 := Scalar.addi c512_i32_593 v1891
  let v1893 : Index := Scalar.indexCast v1892
  let c0_594 : Index := 0#32
  ![v1893.toNat, 0]
@[reducible] def k0_t15_loop : Scf.Loop 32 :=
  let c0_i32_520 : BitVec 32 := 0#32
  let c8_i32_521 : BitVec 32 := 8#32
  let v1851 : BitVec 32 := Scalar.addi c0_i32_520 c8_i32_521
  let c1_i32_522 : BitVec 32 := 1#32
  ⟨c0_i32_520, v1851, c1_i32_522⟩
def k0_off15 (k0_t15 : Fin k0_t15_loop.trips) : Fin 2 → Nat :=
  let c768_i32_593 : BitVec 32 := 768#32
  let c0_i32_520 : BitVec 32 := 0#32
  let c1_i32_522 : BitVec 32 := 1#32
  let arg13 : BitVec 32 := Scf.iv c0_i32_520 c1_i32_522 k0_t15
  let c32_i32_592 : BitVec 32 := 32#32
  let v1891 : BitVec 32 := Scalar.muli arg13 c32_i32_592
  let v1892 : BitVec 32 := Scalar.addi c768_i32_593 v1891
  let v1893 : Index := Scalar.indexCast v1892
  let c0_594 : Index := 0#32
  ![v1893.toNat, 0]
@[reducible] def k0_t16_loop : Scf.Loop 32 :=
  let c0_i32_529 : BitVec 32 := 0#32
  let c8_i32_530 : BitVec 32 := 8#32
  let v1856 : BitVec 32 := Scalar.addi c0_i32_529 c8_i32_530
  let c1_i32_531 : BitVec 32 := 1#32
  ⟨c0_i32_529, v1856, c1_i32_531⟩
def k0_off16 (k0_t16 : Fin k0_t16_loop.trips) : Fin 2 → Nat :=
  let c1024_i32_593 : BitVec 32 := 1024#32
  let c0_i32_529 : BitVec 32 := 0#32
  let c1_i32_531 : BitVec 32 := 1#32
  let arg13 : BitVec 32 := Scf.iv c0_i32_529 c1_i32_531 k0_t16
  let c32_i32_592 : BitVec 32 := 32#32
  let v1891 : BitVec 32 := Scalar.muli arg13 c32_i32_592
  let v1892 : BitVec 32 := Scalar.addi c1024_i32_593 v1891
  let v1893 : Index := Scalar.indexCast v1892
  let c0_594 : Index := 0#32
  ![v1893.toNat, 0]
@[reducible] def k0_t17_loop : Scf.Loop 32 :=
  let c0_i32_538 : BitVec 32 := 0#32
  let c8_i32_539 : BitVec 32 := 8#32
  let v1861 : BitVec 32 := Scalar.addi c0_i32_538 c8_i32_539
  let c1_i32_540 : BitVec 32 := 1#32
  ⟨c0_i32_538, v1861, c1_i32_540⟩
def k0_off17 (k0_t17 : Fin k0_t17_loop.trips) : Fin 2 → Nat :=
  let c1280_i32_593 : BitVec 32 := 1280#32
  let c0_i32_538 : BitVec 32 := 0#32
  let c1_i32_540 : BitVec 32 := 1#32
  let arg13 : BitVec 32 := Scf.iv c0_i32_538 c1_i32_540 k0_t17
  let c32_i32_592 : BitVec 32 := 32#32
  let v1891 : BitVec 32 := Scalar.muli arg13 c32_i32_592
  let v1892 : BitVec 32 := Scalar.addi c1280_i32_593 v1891
  let v1893 : Index := Scalar.indexCast v1892
  let c0_594 : Index := 0#32
  ![v1893.toNat, 0]
@[reducible] def k0_t18_loop : Scf.Loop 32 :=
  let c0_i32_547 : BitVec 32 := 0#32
  let c8_i32_548 : BitVec 32 := 8#32
  let v1866 : BitVec 32 := Scalar.addi c0_i32_547 c8_i32_548
  let c1_i32_549 : BitVec 32 := 1#32
  ⟨c0_i32_547, v1866, c1_i32_549⟩
def k0_off18 (k0_t18 : Fin k0_t18_loop.trips) : Fin 2 → Nat :=
  let c1536_i32_593 : BitVec 32 := 1536#32
  let c0_i32_547 : BitVec 32 := 0#32
  let c1_i32_549 : BitVec 32 := 1#32
  let arg13 : BitVec 32 := Scf.iv c0_i32_547 c1_i32_549 k0_t18
  let c32_i32_592 : BitVec 32 := 32#32
  let v1891 : BitVec 32 := Scalar.muli arg13 c32_i32_592
  let v1892 : BitVec 32 := Scalar.addi c1536_i32_593 v1891
  let v1893 : Index := Scalar.indexCast v1892
  let c0_594 : Index := 0#32
  ![v1893.toNat, 0]
@[reducible] def k0_t19_loop : Scf.Loop 32 :=
  let c0_i32_556 : BitVec 32 := 0#32
  let c8_i32_557 : BitVec 32 := 8#32
  let v1871 : BitVec 32 := Scalar.addi c0_i32_556 c8_i32_557
  let c1_i32_558 : BitVec 32 := 1#32
  ⟨c0_i32_556, v1871, c1_i32_558⟩
def k0_off19 (k0_t19 : Fin k0_t19_loop.trips) : Fin 2 → Nat :=
  let c1792_i32_593 : BitVec 32 := 1792#32
  let c0_i32_556 : BitVec 32 := 0#32
  let c1_i32_558 : BitVec 32 := 1#32
  let arg13 : BitVec 32 := Scf.iv c0_i32_556 c1_i32_558 k0_t19
  let c32_i32_592 : BitVec 32 := 32#32
  let v1891 : BitVec 32 := Scalar.muli arg13 c32_i32_592
  let v1892 : BitVec 32 := Scalar.addi c1792_i32_593 v1891
  let v1893 : Index := Scalar.indexCast v1892
  let c0_594 : Index := 0#32
  ![v1893.toNat, 0]
@[reducible] def k0_t20_loop : Scf.Loop 32 :=
  let c0_i32_565 : BitVec 32 := 0#32
  let c8_i32_566 : BitVec 32 := 8#32
  let v1876 : BitVec 32 := Scalar.addi c0_i32_565 c8_i32_566
  let c1_i32_567 : BitVec 32 := 1#32
  ⟨c0_i32_565, v1876, c1_i32_567⟩
def k0_off20 (k0_t20 : Fin k0_t20_loop.trips) : Fin 2 → Nat :=
  let c2048_i32_593 : BitVec 32 := 2048#32
  let c0_i32_565 : BitVec 32 := 0#32
  let c1_i32_567 : BitVec 32 := 1#32
  let arg13 : BitVec 32 := Scf.iv c0_i32_565 c1_i32_567 k0_t20
  let c32_i32_592 : BitVec 32 := 32#32
  let v1891 : BitVec 32 := Scalar.muli arg13 c32_i32_592
  let v1892 : BitVec 32 := Scalar.addi c2048_i32_593 v1891
  let v1893 : Index := Scalar.indexCast v1892
  let c0_594 : Index := 0#32
  ![v1893.toNat, 0]
@[reducible] def k0_t21_loop : Scf.Loop 32 :=
  let c0_i32_574 : BitVec 32 := 0#32
  let c8_i32_575 : BitVec 32 := 8#32
  let v1881 : BitVec 32 := Scalar.addi c0_i32_574 c8_i32_575
  let c1_i32_576 : BitVec 32 := 1#32
  ⟨c0_i32_574, v1881, c1_i32_576⟩
def k0_off21 (k0_t21 : Fin k0_t21_loop.trips) : Fin 2 → Nat :=
  let c2304_i32_593 : BitVec 32 := 2304#32
  let c0_i32_574 : BitVec 32 := 0#32
  let c1_i32_576 : BitVec 32 := 1#32
  let arg13 : BitVec 32 := Scf.iv c0_i32_574 c1_i32_576 k0_t21
  let c32_i32_592 : BitVec 32 := 32#32
  let v1891 : BitVec 32 := Scalar.muli arg13 c32_i32_592
  let v1892 : BitVec 32 := Scalar.addi c2304_i32_593 v1891
  let v1893 : Index := Scalar.indexCast v1892
  let c0_594 : Index := 0#32
  ![v1893.toNat, 0]
@[reducible] def k0_t22_loop : Scf.Loop 32 :=
  let c0_i32_583 : BitVec 32 := 0#32
  let c8_i32_584 : BitVec 32 := 8#32
  let v1886 : BitVec 32 := Scalar.addi c0_i32_583 c8_i32_584
  let c1_i32_585 : BitVec 32 := 1#32
  ⟨c0_i32_583, v1886, c1_i32_585⟩
def k0_off22 (k0_t22 : Fin k0_t22_loop.trips) : Fin 2 → Nat :=
  let c2560_i32_593 : BitVec 32 := 2560#32
  let c0_i32_583 : BitVec 32 := 0#32
  let c1_i32_585 : BitVec 32 := 1#32
  let arg13 : BitVec 32 := Scf.iv c0_i32_583 c1_i32_585 k0_t22
  let c32_i32_592 : BitVec 32 := 32#32
  let v1891 : BitVec 32 := Scalar.muli arg13 c32_i32_592
  let v1892 : BitVec 32 := Scalar.addi c2560_i32_593 v1891
  let v1893 : Index := Scalar.indexCast v1892
  let c0_594 : Index := 0#32
  ![v1893.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x4096 : Shape := ⟨3, ![4, 8192, 4096]⟩
abbrev S2816x4096 : Shape := ⟨2, ![2816, 4096]⟩
abbrev S32768x4096 : Shape := ⟨2, ![32768, 4096]⟩
abbrev S32768x2816 : Shape := ⟨2, ![32768, 2816]⟩
abbrev S1x1 : Shape := ⟨2, ![1, 1]⟩
abbrev S32768x1 : Shape := ⟨2, ![32768, 1]⟩
abbrev S1x2816x4096 : Shape := ⟨3, ![1, 2816, 4096]⟩
abbrev S1 : Shape := ⟨1, ![1]⟩
abbrev S1x1x1 : Shape := ⟨3, ![1, 1, 1]⟩
abbrev S32768 : Shape := ⟨1, ![32768]⟩
abbrev S4x8192x2816 : Shape := ⟨3, ![4, 8192, 2816]⟩
abbrev S4x8192x1 : Shape := ⟨3, ![4, 8192, 1]⟩

abbrev nBuf : Space → Nat
  | .hbm => 11
  | .vmem => 7
  | .smem => 0
  | _ => 0

abbrev bufTy : (tb : Table) → Fin (tcTables nBuf tb) → BufTy
  | .hbm, ⟨0, _⟩ => ⟨S4x8192x4096, .bf16⟩
  | .hbm, ⟨1, _⟩ => ⟨S2816x4096, .bf16⟩
  | .hbm, ⟨2, _⟩ => ⟨S32768x4096, .bf16⟩
  | .hbm, ⟨3, _⟩ => ⟨S32768x2816, .bf16⟩
  | .hbm, ⟨4, _⟩ => ⟨S2816x4096, .fp8e4m3⟩
  | .hbm, ⟨5, _⟩ => ⟨S1x1, .f32⟩
  | .hbm, ⟨6, _⟩ => ⟨S32768x4096, .fp8e5m2⟩
  | .hbm, ⟨7, _⟩ => ⟨S32768x1, .f32⟩
  | .hbm, ⟨8, _⟩ => ⟨S4x8192x2816, .bf16⟩
  | .hbm, ⟨9, _⟩ => ⟨S4x8192x4096, .fp8e5m2⟩
  | .hbm, ⟨10, _⟩ => ⟨S4x8192x1, .f32⟩
  | .local _ .vmem, ⟨0, _⟩ => ⟨S32768x4096, .bf16⟩
  | .local _ .vmem, ⟨1, _⟩ => ⟨S2816x4096, .bf16⟩
  | .local _ .vmem, ⟨2, _⟩ => ⟨S32768x2816, .bf16⟩
  | .local _ .vmem, ⟨3, _⟩ => ⟨S2816x4096, .fp8e4m3⟩
  | .local _ .vmem, ⟨4, _⟩ => ⟨S1x1, .f32⟩
  | .local _ .vmem, ⟨5, _⟩ => ⟨S32768x4096, .fp8e5m2⟩
  | .local _ .vmem, ⟨6, _⟩ => ⟨S32768x1, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32768x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2816x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x4096 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Chunks.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx (ix2)
local notation "𝕄" => MT nD τ sig Unit (Elt F) ℕ (Pipeline.UD sig nD τ) ℕ

/-- The weight in HBM, the quantised weight in HBM, their copies in vector memory. -/
abbrev A1 : Memref sig .tc .hbm S2816x4096 .bf16 := Memref.whole main_arg1
abbrev A4 : Memref sig .tc .hbm S2816x4096 .fp8e4m3 := Memref.whole main_v1_1
abbrev A8 : Memref sig .tc .vmem S2816x4096 .bf16 := Memref.whole cc0_scratch0
abbrev A9 : Memref sig .tc .vmem S2816x4096 .fp8e4m3 := Memref.whole cc0_scratch1
abbrev A10 : Memref sig .tc .vmem S8x128 .f32 := Memref.whole cc0_scratch2

/-- The 256 rows of `M` from row `o`. -/
abbrev chk {sp : Space} {e : EltTy} (M : Memref sig .tc sp S2816x4096 e) (o : ℕ)
    (h : ∀ a, (![o, 0] : Fin 2 → ℕ) a + S256x4096.size a ≤ S2816x4096.size a) : Memref sig .tc sp S256x4096 e :=
  M.slice (Rect.unit (s := S2816x4096) ![o, 0] S256x4096.size h) (fun _ => rfl)

theorem inbo (r : Fin 11) : ∀ a, (![256 * r.val, 0] : Fin 2 → ℕ) a + S256x4096.size a ≤ S2816x4096.size a := by
  intro a; have := r.isLt
  fin_cases a
  · show 256 * r.val + 256 ≤ 2816; omega
  · show 0 + 4096 ≤ 4096; omega

theorem inbs (r : Fin 11) : ∀ a, (![r.val] : Fin 1 → ℕ) a + S1.size a ≤ S11.size a := by
  intro a; have := r.isLt
  fin_cases a
  show r.val + 1 ≤ 11; omega

/-- The cell of chunk `r` in a row of eleven. -/
abbrev semOf (A : DmaSems sig S11) (r : Fin 11) : DmaSem sig :=
  ((A.slice (Rect.unit (s := S11) ![r.val] S1.size (inbs r))).squeeze S_ squeezes_S1_S_).sem
abbrev sem11 (r : Fin 11) : DmaSem sig := semOf cc0_scratch3 r
abbrev sem12 (r : Fin 11) : DmaSem sig := semOf cc0_scratch4 r

/-- Chunk `r` of `M` on core `c`, held at share `q`. -/
abbrev ck (c : Dev nD) {sp : Space} {e : EltTy} (M : Memref sig .tc sp S2816x4096 e) (r : Fin 11) (q : PosShare TreeShare)
    (f : Buf (Elt F) ((chk M (256 * r.val) (inbo r)).view.loc (c : Thread nD τ))) : sProp 𝕄 :=
  (chk M (256 * r.val) (inbo r)).view.loc (c : Thread nD τ) ↦[(chk M (256 * r.val) (inbo r)).view.set]{q} f

/-- Eleven parts of a state, those below `n` already changed from `A` to `B`. -/
def At (n : ℕ) (A B : Fin 11 → sProp 𝕄) : sProp 𝕄 := bigSep Finset.univ fun r : Fin 11 => if r.val < n then B r else A r

theorem bigSep_erase' {I : Type} [DecidableEq I] {s : Finset I} {i : I} (hi : i ∈ s) (Φ : I → sProp 𝕄) :
    bigSep s Φ = iprop(Φ i ∗ bigSep (s.erase i) Φ) := BI.bigSep_erase hi

theorem At_zero (A B : Fin 11 → sProp 𝕄) : At 0 A B = bigSep Finset.univ A := by
  unfold At; exact bigSep_congr fun r _ => by rw [if_neg (Nat.not_lt_zero _)]
theorem At_last (A B : Fin 11 → sProp 𝕄) : At 11 A B = bigSep Finset.univ B := by
  unfold At; exact bigSep_congr fun r _ => by rw [if_pos r.isLt]

/-- Part `r` taken out, and put back changed. -/
theorem At_take (r : Fin 11) (A B : Fin 11 → sProp 𝕄) :
    At r.val A B ⊢ iprop(A r ∗ (B r -∗ At (r.val + 1) A B)) := by
  unfold At
  rw [bigSep_erase' (Finset.mem_univ r) ( fun r' : Fin 11 => if r'.val < r.val then B r' else A r'),
    bigSep_erase' (Finset.mem_univ r) ( fun r' : Fin 11 => if r'.val < r.val + 1 then B r' else A r'),
    if_neg (lt_irrefl _), if_pos (Nat.lt_succ_self _),
    bigSep_congr (s := Finset.univ.erase r) (Ψ := fun r' : Fin 11 => if r'.val < r.val + 1 then B r' else A r') fun r' h => by
      have hne : r'.val ≠ r.val := fun h' => (Finset.ne_of_mem_erase h) (Fin.ext h')
      by_cases hlt : r'.val < r.val
      · rw [if_pos hlt, if_pos (by omega)]
      · rw [if_neg hlt, if_neg (by omega)]]
  iintro ⟨HA, HR⟩
  isplitl [HA]; · iexact HA
  iintro HB
  isplitl [HB] <;> iassumption

/-- A changed part looked at, and put back as it was. -/
theorem At_peek (n : ℕ) (r : Fin 11) (h : r.val < n) (A B : Fin 11 → sProp 𝕄) :
    At n A B ⊢ iprop(B r ∗ (B r -∗ At n A B)) := by
  unfold At
  rw [bigSep_erase' (Finset.mem_univ r) ( fun r' : Fin 11 => if r'.val < n then B r' else A r'), if_pos h]
  iintro ⟨HA, HR⟩
  isplitl [HA]; · iexact HA
  iintro HB
  isplitl [HB] <;> iassumption

/-- What a transfer of a chunk credits its cell. -/
abbrev crd {sp : Space} {e : EltTy} (M : Memref sig .tc sp S2816x4096 e) (r : Fin 11) : ℕ := (chk M (256 * r.val) (inbo r)).view.dmaCredit

theorem crd_pos {sp : Space} {e : EltTy} (M : Memref sig .tc sp S2816x4096 e) (r : Fin 11) (sm : SemLoc sig) :
    0 < (chk M (256 * r.val) (inbo r)).view.amount sm :=
  Nat.pos_of_ne_zero fun h => absurd ((View.amount_eq_zero_iff _ sm).mp h) (by decide)

variable (c : Dev nD) (𝒱 : Variants) (bd : Option 𝒱.V)

/-! ## The weight's rows coming in -/

/-- Before, during and after the transfer of chunk `r` of the weight `f`. -/
def I0 (f : Vec F S2816x4096 .bf16) (r : Fin 11) : sProp 𝕄 :=
  iprop(ck c A1 r fullShare f ∗ (∃ g, ck c A8 r fullShare g) ∗ semVal ((c : Thread nD τ), SemLoc.dma (sem11 r)) 0)
def I2 (f : Vec F S2816x4096 .bf16) (r : Fin 11) : sProp 𝕄 :=
  iprop(ck c A1 r fullShare f ∗ ck c A8 r fullShare f ∗ semVal ((c : Thread nD τ), SemLoc.dma (sem11 r)) 0)
def I1 (f : Vec F S2816x4096 .bf16) (r : Fin 11) : sProp 𝕄 :=
  Transfers.Flight (countersEmb (U := Pipeline.UD sig nD τ) : UEmb Counters 𝕄) (c : Thread nD τ) (.dma (sem11 r)) () (crd A8 r) iprop(ck c A8 r fullShare f ∗ ck c A1 r fullShare f)

theorem landed (f : Vec F S2816x4096 .bf16) (r : Fin 11) (g : Buf (Elt F) ((chk A8 (256 * r.val) (inbo r)).view.loc (c : Thread nD τ))) :
    (ck c A8 r fullShare ((chk A8 (256 * r.val) (inbo r)).view.write (Elt F) g
      ((chk A1 (256 * r.val) (inbo r)).view.read (Elt F) (f : Buf (Elt F) ((chk A1 (256 * r.val) (inbo r)).view.loc (c : Thread nD τ)))) Finset.univ) : sProp 𝕄)
      = ck c A8 r fullShare f :=
  pointsTo_congr fun i hi => by
    obtain ⟨x, -, rfl⟩ := Finset.mem_map.mp hi
    rw [View.write_emb_of_mem _ _ (Finset.mem_univ _)]
    rfl

variable {c 𝒱 bd}

theorem issueIn {α : Type} (f : Vec F S2816x4096 .bf16) (r : Fin 11) {hsrc hdst hsem}
    {k : PUnit → Prog (TpuEff nD τ sig (Elt F) Λ₀ .tc) α} {Q : α → sProp 𝕄} :
    At r.val (I0 c f) (I1 c f)
      ⊢ iprop((At (r.val + 1) (I0 c f) (I1 c f) -∗ wp frame (wpE (defs₀ (F := F)) 𝒱 (c : Thread nD τ) bd) Set.univ (k ⟨⟩) Q)
        -∗ wp frame (wpE (defs₀ (F := F)) 𝒱 (c : Thread nD τ) bd) Set.univ
          (Prog.lift (.enqueueDma (chk A1 (256 * r.val) (inbo r)) (.here (chk A8 (256 * r.val) (inbo r))) (.dma (sem11 r)) hsrc hdst hsem) >>= k) Q) := by
  iintro H Hk
  ihave H := (At_take r (I0 c f) (I1 c f)) $$ H
  icases H with ⟨HA, HR⟩
  unfold I0
  icases HA with ⟨H1, ⟨%g, H8⟩, Hs⟩
  iapply (Transfers.wp_dmaLocal (countersEmb (U := Pipeline.UD sig nD τ) : UEmb Counters 𝕄) 𝒱 (c : Thread nD τ) bd () (crd A8 r) rfl (crd_pos A8 r (.dma (sem11 r))) (Finset.Subset.refl _)
    (src := chk A1 (256 * r.val) (inbo r)) (dst := chk A8 (256 * r.val) (inbo r)) (sm := .dma (sem11 r)) (fs := f) (fd := g)) $$ [H1 H8 Hs]
  · isplitl [H1]; · iexact H1
    isplitl [H8] <;> iassumption
  iintro HF
  iapply Hk
  iapply HR
  unfold I1
  iapply (Transfers.Flight_mono (countersEmb (U := Pipeline.UD sig nD τ) : UEmb Counters 𝕄) (c : Thread nD τ)) $$ HF
  rw [← landed c f r g]

theorem waitIn {α : Type} (f : Vec F S2816x4096 .bf16) (r : Fin 11) {hsrc hdst}
    {k : PUnit → Prog (TpuEff nD τ sig (Elt F) Λ₀ .tc) α} {Q : α → sProp 𝕄} :
    iprop(At r.val (I1 c f) (I2 c f) ∗ ∃ W, owes (c : Thread nD τ) 0 W)
      ⊢ iprop((iprop(At (r.val + 1) (I1 c f) (I2 c f) ∗ ∃ W, owes (c : Thread nD τ) 0 W) -∗ wp frame (wpE (defs₀ (F := F)) 𝒱 (c : Thread nD τ) bd) Set.univ (k ⟨⟩) Q)
        -∗ wp frame (wpE (defs₀ (F := F)) 𝒱 (c : Thread nD τ) bd) Set.univ
          (Prog.lift (.waitDma2 (sem11 r) (chk A1 (256 * r.val) (inbo r)) (chk A8 (256 * r.val) (inbo r)) hsrc hdst) >>= k) Q) := by
  iintro ⟨H, ⟨%W, HO⟩⟩ Hk
  ihave H := (At_take r (I1 c f) (I2 c f)) $$ H
  icases H with ⟨HA, HR⟩
  unfold I1
  iapply (Transfers.wp_waitLocal (countersEmb (U := Pipeline.UD sig nD τ) : UEmb Counters 𝕄) 𝒱 (c : Thread nD τ) bd () (N := crd A8 r) rfl) $$ [HA HO]
  · isplitl [HA] <;> iassumption
  iintro ⟨⟨H8, H1⟩, Hs, HO⟩
  iapply Hk
  isplitl [HR H8 H1 Hs]
  · iapply HR
    unfold I2
    isplitl [H1]; · iexact H1
    isplitl [H8] <;> iassumption
  · iexists _; iexact HO

/-! ## The loops -/

/-- The 32 rows of `f` from row `o`. -/
def rd (f : Vec F S2816x4096 .bf16) (o : ℕ) (h : o + 32 ≤ 2816) : Vec F S32x4096 .bf16 :=
  fun j => f (ix2 ⟨o + (j 0).val, by have : (j 0).val < 32 := (j 0).isLt; omega⟩ (j 1))

theorem inb32 (o : ℕ) (h : o + 32 ≤ 2816) : ∀ a, (![o, 0] : Fin 2 → ℕ) a + S32x4096.size a ≤ S2816x4096.size a := by
  intro a; fin_cases a
  · show o + 32 ≤ 2816; omega
  · show 0 + 4096 ≤ 4096; omega

theorem readAt_rd (f : Vec F S2816x4096 .bf16) (o : ℕ) (h : o + 32 ≤ 2816) :
    A8.view.readAt (Elt F) (Rect.unit (s := S2816x4096) ![o, 0] S32x4096.size (inb32 o h)).toLoadRect f = rd f o h := by
  funext j
  show f _ = f _
  congr 1
  funext a
  match a with
  | ⟨0, _⟩ => exact Fin.ext (by show o + 1 * (j 0).val = o + (j 0).val; omega)
  | ⟨1, _⟩ => exact Fin.ext (by show 0 + 1 * (j 1).val = (j 1).val; omega)

theorem sub32 {sp : Space} {e : EltTy} (M : Memref sig .tc sp S2816x4096 e) (r : Fin 11) (k : ℕ) (hk : k < 8) (h : 256 * r.val + 32 * k + 32 ≤ 2816) :
    M.view.setOn (Rect.unit (s := S2816x4096) ![256 * r.val + 32 * k, 0] S32x4096.size (inb32 _ h)).set ⊆ (chk M (256 * r.val) (inbo r)).view.set := by
  show _ ⊆ (M.view.slice (Rect.unit (s := S2816x4096) ![256 * r.val, 0] S256x4096.size (inbo r))).set
  rw [View.set_slice]
  refine Finset.map_subset_map.mpr fun i hi => ?_
  have h0 := Rect.mem_set_unit.mp hi (0 : Fin 2)
  have h0l : 256 * r.val + 32 * k ≤ (i 0).val := h0.1
  have h0u : (i 0).val < 256 * r.val + 32 * k + 32 := h0.2
  refine Rect.mem_set_unit.mpr (Fin.forall_fin_two.mpr ⟨⟨?_, ?_⟩, ⟨Nat.zero_le _, ?_⟩⟩)
  · show 256 * r.val ≤ (i 0).val; omega
  · show (i 0).val < 256 * r.val + 256; omega
  · show (i 1).val < 0 + 4096; have : (i 1).val < 4096 := (i 1).isLt; omega

theorem bnd (r : Fin 11) (k : ℕ) (hk : k < 8) : 256 * r.val + 32 * k + 32 ≤ 2816 := by have := r.isLt; omega

/-- The running value of the loop over the eight row groups of chunk `r`. -/
def accN (g : FVec F S32x128 .bf16 → Vec F S32x4096 .bf16 → FVec F S32x128 .bf16) (f : Vec F S2816x4096 .bf16) (r : Fin 11) (init : FVec F S32x128 .bf16) :
    ℕ → FVec F S32x128 .bf16
  | 0 => init
  | k + 1 => if h : k < 8 then g (accN g f r init k) (rd f (256 * r.val + 32 * k) (bnd r k h)) else accN g f r init k

/-- The loop that folds the rows of chunk `r` into the running maximum. -/
theorem amaxLoop {α : Type} (f : Vec F S2816x4096 .bf16) (n : ℕ) (r : Fin 11) (hr : r.val < n) (A : Fin 11 → sProp 𝕄) (l : Scf.Loop 32) (hok : l.OK)
    (ht : l.trips = 8) (off : Fin l.trips → Fin 2 → ℕ) (hoff : ∀ k, off k = ![256 * r.val + 32 * k.val, 0])
    (inb : ∀ k a, off k a + S32x4096.size a ≤ S2816x4096.size a)
    (ld : ∀ k, A8.view.LoadsAt (Rect.unit (s := S2816x4096) (off k) S32x4096.size (inb k)).toLoadRect)
    (g : FVec F S32x128 .bf16 → Vec F S32x4096 .bf16 → FVec F S32x128 .bf16) (init : FVec F S32x128 .bf16)
    (body : Fin l.trips → FVec F S32x128 .bf16 → Prog (TpuEff nD τ sig (Elt F) Λ₀ .tc) (FVec F S32x128 .bf16))
    (hbody : ∀ k acc, body k acc = .op (.load A8 (Rect.unit (s := S2816x4096) (off k) S32x4096.size (inb k)).toLoadRect (ld k))
      fun v => .ret (g acc v))
    {kk : FVec F S32x128 .bf16 → Prog (TpuEff nD τ sig (Elt F) Λ₀ .tc) α} {Q : α → sProp 𝕄} :
    At n A (I2 c f)
      ⊢ iprop((At n A (I2 c f) -∗ wp frame (wpE (defs₀ (F := F)) 𝒱 (c : Thread nD τ) bd) Set.univ (kk (accN g f r init 8)) Q)
        -∗ wp frame (wpE (defs₀ (F := F)) 𝒱 (c : Thread nD τ) bd) Set.univ (Scf.Loop.for l hok init body >>= kk) Q) := by
  obtain rfl : off = fun k => ![256 * r.val + 32 * k.val, 0] := funext hoff
  iintro H Hk
  iapply (Scf.wp_for_bind frame (wpE (defs₀ (F := F)) 𝒱 (c : Thread nD τ) bd) Set.univ l.lb l.ub l.st hok init body
    (fun k acc => iprop(⌜acc = accN g f r init k⌝ ∗ At n A (I2 c f)))
    (by
      intro k acc
      have hk : k.val < 8 := ht ▸ k.isLt
      iintro ⟨%hacc, H⟩
      ihave H := (At_peek n r hr A (I2 c f)) $$ H
      icases H with ⟨HA, HR⟩
      unfold I2
      icases HA with ⟨H1, H8, Hs⟩
      rw [hbody]
      iapply (wp_load 𝒱 (c : Thread nD τ) bd Set.univ (m := A8)
        (r := (Rect.unit (s := S2816x4096) ![256 * r.val + 32 * k.val, 0] S32x4096.size (inb k)).toLoadRect) (f := f)
        (sub32 A8 r k.val hk (bnd r k.val hk))) $$ H8
      iintro H8
      rw [show A8.view.readAt (Elt F) (Rect.unit (s := S2816x4096) ![256 * r.val + 32 * k.val, 0] S32x4096.size (inb k)).toLoadRect f
        = rd f (256 * r.val + 32 * k.val) (bnd r k.val hk) from readAt_rd f _ _]
      sl_step
      isplitr
      · ipureintro
        show g acc _ = accN g f r init (k.val + 1)
        rw [accN, dif_pos hk, hacc]
      · iapply HR
        isplitl [H1]; · iexact H1
        isplitl [H8] <;> iassumption)) $$ [H]
  · isplitr
    · ipureintro; rfl
    · iexact H
  iintro %acc ⟨%hacc, H⟩
  rw [show Scf.trips l.lb l.ub l.st = 8 from ht] at hacc
  subst hacc
  iapply Hk
  iexact H

/-! ## The quantised rows going out -/

/-- The quantised weight, every group of 32 rows by `pay`. -/
def wqOf (pay : Vec F S32x4096 .bf16 → FVec F S32x4096 .fp8e4m3) (f : Vec F S2816x4096 .bf16) : Vec F S2816x4096 .fp8e4m3 :=
  fun i => pay (rd f (32 * ((i 0).val / 32)) (by have : (i 0).val < 2816 := (i 0).isLt; omega)) (ix2 ⟨(i 0).val % 32, Nat.mod_lt _ (by norm_num)⟩ (i 1))

def O2 (c : Dev nD) (wq : Vec F S2816x4096 .fp8e4m3) (r : Fin 11) : sProp 𝕄 :=
  Transfers.Flight (countersEmb (U := Pipeline.UD sig nD τ) : UEmb Counters 𝕄) (c : Thread nD τ) (.dma (sem12 r)) () (crd A4 r) iprop(ck c A4 r fullShare wq ∗ ck c A9 r fullShare.right wq)
def O3 (c : Dev nD) (wq : Vec F S2816x4096 .fp8e4m3) (r : Fin 11) : sProp 𝕄 :=
  iprop(ck c A4 r fullShare wq ∗ ck c A9 r fullShare.right wq ∗ semVal ((c : Thread nD τ), SemLoc.dma (sem12 r)) 0)
def B0 (c : Dev nD) (f : Vec F S2816x4096 .bf16) (r : Fin 11) : sProp 𝕄 :=
  iprop(ck c A8 r fullShare f ∗ (∃ g, ck c A9 r fullShare g) ∗ (∃ g, ck c A4 r fullShare g) ∗ semVal ((c : Thread nD τ), SemLoc.dma (sem12 r)) 0)
def B1 (c : Dev nD) (f : Vec F S2816x4096 .bf16) (wq : Vec F S2816x4096 .fp8e4m3) (r : Fin 11) : sProp 𝕄 :=
  iprop(ck c A8 r fullShare f ∗ ck c A9 r fullShare wq ∗ (∃ g, ck c A4 r fullShare g) ∗ semVal ((c : Thread nD τ), SemLoc.dma (sem12 r)) 0)
def B2 (c : Dev nD) (f : Vec F S2816x4096 .bf16) (wq : Vec F S2816x4096 .fp8e4m3) (r : Fin 11) : sProp 𝕄 :=
  iprop(ck c A8 r fullShare f ∗ ck c A9 r fullShare.left wq ∗ O2 c wq r)
/-- Chunk `r` quantised and not yet issued, among the others. -/
def Mid (c : Dev nD) (f : Vec F S2816x4096 .bf16) (wq : Vec F S2816x4096 .fp8e4m3) (r : Fin 11) : sProp 𝕄 :=
  iprop(B1 c f wq r ∗ (B2 c f wq r -∗ At (r.val + 1) (B0 c f) (B2 c f wq)))

/-- Contents whose rows below `256 r + 32 k` are the quantised ones. -/
def partq (wq g : Vec F S2816x4096 .fp8e4m3) (n : ℕ) : Vec F S2816x4096 .fp8e4m3 := fun i => if (i 0).val < n then wq i else g i

theorem wqOf_at (pay : Vec F S32x4096 .bf16 → FVec F S32x4096 .fp8e4m3) (f : Vec F S2816x4096 .bf16) (i : S2816x4096.Idx) (o : ℕ) (ho : o + 32 ≤ 2816)
    (hd : ∃ m, o = 32 * m) (y : S32x4096.Idx) (e0 : (i 0).val = o + (y 0).val) (e1 : i 1 = (y 1 : Fin 4096)) : wqOf pay f i = pay (rd f o ho) y := by
  have hy : (y 0).val < 32 := (y 0).isLt
  obtain ⟨m, rfl⟩ := hd
  have hq : 32 * ((i 0).val / 32) = 32 * m := by rw [e0]; omega
  have hr : (i 0).val % 32 = (y 0).val := by rw [e0]; omega
  have hy' : (ix2 ⟨(i 0).val % 32, Nat.mod_lt _ (by norm_num)⟩ (i 1) : S32x4096.Idx) = y := by
    funext a
    match a with
    | ⟨0, _⟩ => exact Fin.ext hr
    | ⟨1, _⟩ => exact e1
  unfold wqOf
  rw [hy']
  have : ∀ (a b : ℕ) (ha : a + 32 ≤ 2816) (hb : b + 32 ≤ 2816), a = b → pay (rd f a ha) y = pay (rd f b hb) y := by
    rintro a b ha hb rfl; rfl
  exact this _ _ _ _ hq

theorem partq_at (pay : Vec F S32x4096 .bf16 → FVec F S32x4096 .fp8e4m3) (f : Vec F S2816x4096 .bf16) (g : Vec F S2816x4096 .fp8e4m3) (r : Fin 11) (k : ℕ)
    (hk : k < 8) (i : S2816x4096.Idx) (y : S32x4096.Idx) (e0 : (i 0).val = 256 * r.val + 32 * k + (y 0).val) (e1 : i 1 = (y 1 : Fin 4096)) :
    pay (rd f (256 * r.val + 32 * k) (bnd r k hk)) y = partq (wqOf pay f) g (256 * r.val + 32 * (k + 1)) i := by
  have hy : (y 0).val < 32 := (y 0).isLt
  unfold partq
  rw [if_pos (by omega)]
  exact (wqOf_at pay f i (256 * r.val + 32 * k) (bnd r k hk) ⟨8 * r.val + k, by omega⟩ y e0 e1).symm

theorem mem_rows (o : ℕ) (ho : o + 32 ≤ 2816) (i : S2816x4096.Idx) (h0 : o ≤ (i 0).val) (h1 : (i 0).val < o + 32) :
    i ∈ (A9.access (Rect.unit (s := S2816x4096) ![o, 0] S32x4096.size (inb32 o ho))).set := by
  show i ∈ (A9.view.slice (Rect.unit (s := S2816x4096) ![o, 0] S32x4096.size (inb32 o ho))).set
  rw [View.set_slice_whole]
  refine Rect.mem_set_unit.mpr (Fin.forall_fin_two.mpr ⟨⟨h0, h1⟩, Nat.zero_le _, ?_⟩)
  show (i 1).val < 0 + 4096
  have : (i 1).val < 4096 := (i 1).isLt
  omega

theorem quantStep (c : Dev nD) (pay : Vec F S32x4096 .bf16 → FVec F S32x4096 .fp8e4m3) (f : Vec F S2816x4096 .bf16) (r : Fin 11)
    (g : Vec F S2816x4096 .fp8e4m3) (k : ℕ) (hk : k < 8) (x : Vec F S32x4096 .fp8e4m3) (hx : x = pay (rd f (256 * r.val + 32 * k) (bnd r k hk))) :
    (ck c A9 r fullShare ((A9.access (Rect.unit (s := S2816x4096) ![256 * r.val + 32 * k, 0] S32x4096.size (inb32 _ (bnd r k hk)))).write (Elt F)
        (partq (wqOf pay f) g (256 * r.val + 32 * k)) x Finset.univ) : sProp 𝕄)
      = ck c A9 r fullShare (partq (wqOf pay f) g (256 * r.val + 32 * (k + 1))) :=
  pointsTo_congr fun i hi => by
    subst hx
    by_cases hm : i ∈ (A9.access (Rect.unit (s := S2816x4096) ![256 * r.val + 32 * k, 0] S32x4096.size (inb32 _ (bnd r k hk)))).set
    · obtain ⟨y, -, rfl⟩ := Finset.mem_map.mp hm
      rw [View.write_emb_of_mem _ _ (Finset.mem_univ _)]
      have hy : (y 0).val < 32 := (y 0).isLt
      have e0 : (((A9.access (Rect.unit (s := S2816x4096) ![256 * r.val + 32 * k, 0] S32x4096.size (inb32 _ (bnd r k hk)))).emb y : S2816x4096.Idx) 0).val
          = 256 * r.val + 32 * k + (y 0).val := by
        show 256 * r.val + 32 * k + 1 * (y 0).val = _; omega
      have e1 : ((A9.access (Rect.unit (s := S2816x4096) ![256 * r.val + 32 * k, 0] S32x4096.size (inb32 _ (bnd r k hk)))).emb y : S2816x4096.Idx) 1
          = (y 1 : Fin 4096) := Fin.ext (by show 0 + 1 * (y 1).val = _; omega)
      exact partq_at pay f g r k hk _ y e0 e1
    · rw [View.write_of_not_mem _ _ _ hm]
      have hn : ¬ (256 * r.val + 32 * k ≤ ((i : S2816x4096.Idx) 0).val ∧ ((i : S2816x4096.Idx) 0).val < 256 * r.val + 32 * k + 32) := fun hh =>
        hm (mem_rows _ (bnd r k hk) i hh.1 hh.2)
      show partq _ _ _ i = partq _ _ _ i
      unfold partq
      by_cases h1 : ((i : S2816x4096.Idx) 0).val < 256 * r.val + 32 * k
      · rw [if_pos h1, if_pos (by omega)]
      · rw [if_neg h1, if_neg (by omega)]

/-- The loop that quantises the rows of chunk `r`. -/
theorem quantLoop {α : Type} (pay : Vec F S32x4096 .bf16 → FVec F S32x4096 .fp8e4m3) (f : Vec F S2816x4096 .bf16) (r : Fin 11) (l : Scf.Loop 32) (hok : l.OK)
    (ht : l.trips = 8) (off : Fin l.trips → Fin 2 → ℕ) (hoff : ∀ k, off k = ![256 * r.val + 32 * k.val, 0])
    (inb : ∀ k a, off k a + S32x4096.size a ≤ S2816x4096.size a)
    (ld : ∀ k, A8.view.LoadsAt (Rect.unit (s := S2816x4096) (off k) S32x4096.size (inb k)).toLoadRect)
    (ld' : ∀ k, A9.view.LoadsAt (Rect.unit (s := S2816x4096) (off k) S32x4096.size (inb k)).toLoadRect)
    (st : ∀ k, (A9.access (Rect.unit (s := S2816x4096) (off k) S32x4096.size (inb k))).Stores Finset.univ)
    (body : Fin l.trips → Unit → Prog (TpuEff nD τ sig (Elt F) Λ₀ .tc) Unit)
    (hbody : ∀ k acc, body k acc = .op (.load A8 (Rect.unit (s := S2816x4096) (off k) S32x4096.size (inb k)).toLoadRect (ld k))
      fun v => .op (.load A9 (Rect.unit (s := S2816x4096) (off k) S32x4096.size (inb k)).toLoadRect (ld' k))
      fun _ => .op (.store A9 (Rect.unit (s := S2816x4096) (off k) S32x4096.size (inb k)) (pay v) Finset.univ (st k) (.inl rfl))
      fun _ => .ret ⟨⟩)
    {kk : Unit → Prog (TpuEff nD τ sig (Elt F) Λ₀ .tc) α} {Q : α → sProp 𝕄} :
    At r.val (B0 c f) (B2 c f (wqOf pay f))
      ⊢ iprop((Mid c f (wqOf pay f) r -∗ wp frame (wpE (defs₀ (F := F)) 𝒱 (c : Thread nD τ) bd) Set.univ (kk ⟨⟩) Q)
        -∗ wp frame (wpE (defs₀ (F := F)) 𝒱 (c : Thread nD τ) bd) Set.univ (Scf.Loop.for l hok ⟨⟩ body >>= kk) Q) := by
  obtain rfl : off = fun k => ![256 * r.val + 32 * k.val, 0] := funext hoff
  iintro H Hk
  ihave H := (At_take r (B0 c f) (B2 c f (wqOf pay f))) $$ H
  icases H with ⟨HA, HR⟩
  unfold B0
  icases HA with ⟨H8, ⟨%g, H9⟩, H4, Hs⟩
  iapply (Scf.wp_for_bind frame (wpE (defs₀ (F := F)) 𝒱 (c : Thread nD τ) bd) Set.univ l.lb l.ub l.st hok ⟨⟩ body
    (fun k _ => iprop(ck c A8 r fullShare f ∗ ck c A9 r fullShare (partq (wqOf pay f) g (256 * r.val + 32 * k))))
    (by
      intro k acc
      have hk : k.val < 8 := ht ▸ k.isLt
      iintro ⟨H8, H9⟩
      rw [hbody]
      iapply (wp_load 𝒱 (c : Thread nD τ) bd Set.univ (m := A8)
        (r := (Rect.unit (s := S2816x4096) ![256 * r.val + 32 * k.val, 0] S32x4096.size (inb k)).toLoadRect) (f := f)
        (sub32 A8 r k.val hk (bnd r k.val hk))) $$ H8
      iintro H8
      rw [show A8.view.readAt (Elt F) (Rect.unit (s := S2816x4096) ![256 * r.val + 32 * k.val, 0] S32x4096.size (inb k)).toLoadRect f
        = rd f (256 * r.val + 32 * k.val) (bnd r k.val hk) from readAt_rd f _ _]
      iapply (wp_load 𝒱 (c : Thread nD τ) bd Set.univ (m := A9)
        (r := (Rect.unit (s := S2816x4096) ![256 * r.val + 32 * k.val, 0] S32x4096.size (inb k)).toLoadRect)
        (sub32 A9 r k.val hk (bnd r k.val hk))) $$ H9
      iintro H9
      iapply (wp_store 𝒱 (c : Thread nD τ) bd Set.univ (m := A9)
        (r := Rect.unit (s := S2816x4096) ![256 * r.val + 32 * k.val, 0] S32x4096.size (inb k))
        (w := pay (rd f (256 * r.val + 32 * k.val) (bnd r k.val hk)))
        (S := (chk A9 (256 * r.val) (inbo r)).view.set)
        (by
          have := sub32 A9 r k.val hk (bnd r k.val hk)
          show (A9.view.slice _).set ⊆ _
          rw [View.set_slice]
          exact this)) $$ H9
      iintro H9
      sl_step
      isplitl [H8]; · iexact H8
      iapply (BIBase.BiEntails.of_eq (quantStep c pay f r g k.val hk _ rfl)).1 $$ H9)) $$ [H8 H9]
  · isplitl [H8]; · iexact H8
    rw [show (ck c A9 r fullShare (partq (wqOf pay f) g (256 * r.val + 32 * 0)) : sProp 𝕄) = ck c A9 r fullShare g from
      pointsTo_congr fun i hi => by
        have hi' : i ∈ (A9.view.slice (Rect.unit (s := S2816x4096) ![256 * r.val, 0] S256x4096.size (inbo r))).set := hi
        rw [View.set_slice_whole] at hi'
        have h0 : 256 * r.val ≤ ((i : S2816x4096.Idx) 0).val := (Rect.mem_set_unit.mp hi' (0 : Fin 2)).1
        show partq _ _ _ i = g i
        unfold partq
        rw [if_neg (by omega)]]
    iexact H9
  iintro %acc ⟨H8, H9⟩
  iapply Hk
  unfold Mid B1
  isplitl [H8 H9 H4 Hs]
  · isplitl [H8]; · iexact H8
    isplitl [H9]
    · rw [show Scf.trips l.lb l.ub l.st = 8 from ht]
      rw [show (ck c A9 r fullShare (partq (wqOf pay f) g (256 * r.val + 32 * 8)) : sProp 𝕄) = ck c A9 r fullShare (wqOf pay f) from
        pointsTo_congr fun i hi => by
          have hi' : i ∈ (A9.view.slice (Rect.unit (s := S2816x4096) ![256 * r.val, 0] S256x4096.size (inbo r))).set := hi
          rw [View.set_slice_whole] at hi'
          have h0 : ((i : S2816x4096.Idx) 0).val < 256 * r.val + 256 := (Rect.mem_set_unit.mp hi' (0 : Fin 2)).2
          show partq _ _ _ i = _
          unfold partq
          rw [if_pos (by omega)]]
      exact .rfl
    isplitl [H4] <;> iassumption
  · iexact HR

theorem landedOut (c : Dev nD) (f : Vec F S2816x4096 .fp8e4m3) (r : Fin 11) (g : Buf (Elt F) ((chk A4 (256 * r.val) (inbo r)).view.loc (c : Thread nD τ))) :
    (ck c A4 r fullShare ((chk A4 (256 * r.val) (inbo r)).view.write (Elt F) g
      ((chk A9 (256 * r.val) (inbo r)).view.read (Elt F) (f : Buf (Elt F) ((chk A9 (256 * r.val) (inbo r)).view.loc (c : Thread nD τ)))) Finset.univ) : sProp 𝕄)
      = ck c A4 r fullShare f :=
  pointsTo_congr fun i hi => by
    obtain ⟨x, -, rfl⟩ := Finset.mem_map.mp hi
    rw [View.write_emb_of_mem _ _ (Finset.mem_univ _)]
    rfl

theorem issueOut {α : Type} (f : Vec F S2816x4096 .bf16) (wq : Vec F S2816x4096 .fp8e4m3) (r : Fin 11) {hsrc hdst hsem}
    {k : PUnit → Prog (TpuEff nD τ sig (Elt F) Λ₀ .tc) α} {Q : α → sProp 𝕄} :
    Mid c f wq r
      ⊢ iprop((At (r.val + 1) (B0 c f) (B2 c f wq) -∗ wp frame (wpE (defs₀ (F := F)) 𝒱 (c : Thread nD τ) bd) Set.univ (k ⟨⟩) Q)
        -∗ wp frame (wpE (defs₀ (F := F)) 𝒱 (c : Thread nD τ) bd) Set.univ
          (Prog.lift (.enqueueDma (chk A9 (256 * r.val) (inbo r)) (.here (chk A4 (256 * r.val) (inbo r))) (.dma (sem12 r)) hsrc hdst hsem) >>= k) Q) := by
  iintro H Hk
  unfold Mid B1
  icases H with ⟨⟨H8, H9, ⟨%g, H4⟩, Hs⟩, HR⟩
  ihave H9 := (pointsTo_share (PosShare.mem_left_op_right fullShare)).1 $$ H9
  icases H9 with ⟨H9l, H9r⟩
  iapply (Transfers.wp_dmaLocal (countersEmb (U := Pipeline.UD sig nD τ) : UEmb Counters 𝕄) 𝒱 (c : Thread nD τ) bd () (crd A4 r) rfl (crd_pos A4 r (.dma (sem12 r))) (Finset.Subset.refl _)
    (src := chk A9 (256 * r.val) (inbo r)) (dst := chk A4 (256 * r.val) (inbo r)) (sm := .dma (sem12 r)) (fs := wq) (fd := g)) $$ [H9r H4 Hs]
  · isplitl [H9r]; · iexact H9r
    isplitl [H4] <;> iassumption
  iintro HF
  iapply Hk
  iapply HR
  unfold B2 O2
  isplitl [H8]; · iexact H8
  isplitl [H9l]; · iexact H9l
  iapply (Transfers.Flight_mono (countersEmb (U := Pipeline.UD sig nD τ) : UEmb Counters 𝕄) (c : Thread nD τ)) $$ HF
  rw [← landedOut c wq r g]

theorem waitOut {α : Type} (wq : Vec F S2816x4096 .fp8e4m3) (r : Fin 11) {hsrc hdst}
    {k : PUnit → Prog (TpuEff nD τ sig (Elt F) Λ₀ .tc) α} {Q : α → sProp 𝕄} :
    iprop(At r.val (O2 c wq) (O3 c wq) ∗ ∃ W, owes (c : Thread nD τ) 0 W)
      ⊢ iprop((iprop(At (r.val + 1) (O2 c wq) (O3 c wq) ∗ ∃ W, owes (c : Thread nD τ) 0 W) -∗ wp frame (wpE (defs₀ (F := F)) 𝒱 (c : Thread nD τ) bd) Set.univ (k ⟨⟩) Q)
        -∗ wp frame (wpE (defs₀ (F := F)) 𝒱 (c : Thread nD τ) bd) Set.univ
          (Prog.lift (.waitDma2 (sem12 r) (chk A9 (256 * r.val) (inbo r)) (chk A4 (256 * r.val) (inbo r)) hsrc hdst) >>= k) Q) := by
  iintro ⟨H, ⟨%W, HO⟩⟩ Hk
  ihave H := (At_take r (O2 c wq) (O3 c wq)) $$ H
  icases H with ⟨HA, HR⟩
  unfold O2
  iapply (Transfers.wp_waitLocal (countersEmb (U := Pipeline.UD sig nD τ) : UEmb Counters 𝕄) 𝒱 (c : Thread nD τ) bd () (N := crd A4 r) rfl) $$ [HA HO]
  · isplitl [HA] <;> iassumption
  iintro ⟨⟨H4, H9⟩, Hs, HO⟩
  iapply Hk
  isplitl [HR H4 H9 Hs]
  · iapply HR
    unfold O3
    isplitl [H4]; · iexact H4
    isplitl [H9] <;> iassumption
  · iexists _; iexact HO

end Cert.KernelIdeal.Hand

end
-- ==== Proof.Init.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import proofs.«01_k».proof.Proof.Chunks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The eleven chunks. -/
abbrev c0 : Fin 11 := ⟨0, by decide⟩
abbrev c1 : Fin 11 := ⟨1, by decide⟩
abbrev c2 : Fin 11 := ⟨2, by decide⟩
abbrev c3 : Fin 11 := ⟨3, by decide⟩
abbrev c4 : Fin 11 := ⟨4, by decide⟩
abbrev c5 : Fin 11 := ⟨5, by decide⟩
abbrev c6 : Fin 11 := ⟨6, by decide⟩
abbrev c7 : Fin 11 := ⟨7, by decide⟩
abbrev c8 : Fin 11 := ⟨8, by decide⟩
abbrev c9 : Fin 11 := ⟨9, by decide⟩
abbrev c10 : Fin 11 := ⟨10, by decide⟩

/-- One group of 32 rows folded into the running maximum. -/
def amaxG (acc : FVec F S32x128 .bf16) (v : Vec F S32x4096 .bf16) : FVec F S32x128 .bf16 := k0_pay290 acc v (k0_pay18 v) (k0_pay19 v) (k0_pay20 v) (k0_pay21 v) (k0_pay22 v) (k0_pay23 v) (k0_pay24 v) (k0_pay25 v) (k0_pay26 v) (k0_pay27 v) (k0_pay289 (k0_pay2 v) (k0_pay3 v) (k0_pay4 v) (k0_pay5 v) (k0_pay6 v) (k0_pay7 v) (k0_pay8 v) (k0_pay9 v) (k0_pay10 v) (k0_pay11 v) (k0_pay12 v) (k0_pay13 v) (k0_pay14 v) (k0_pay15 v) (k0_pay16 v) (k0_pay17 v))

variable (c : Dev nD) (𝒱 : Variants) (bd : Option 𝒱.V) (i : grid0.Coords) (arg2 : Memref sig .tc .vmem S512x4096 .bf16) (harg2 : arg2.IsWhole) (arg3 : Memref sig .tc .vmem S512x2816 .bf16) (harg3 : arg3.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (f : Vec F S2816x4096 .bf16)

theorem part12_run {Q : _ → sProp 𝕄} : At 0 (I0 c f) (I1 c f)
    ⊢ iprop((At 6 (I0 c f) (I1 c f) -∗ Q ⟨⟩) -∗ wp frame (wpE (defs₀ (F := F)) 𝒱 (c : Thread nD τ) bd) Set.univ (k0_part12 (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4) Q) := by
  rw [k0_part12_eq_skeleton]; unfold k0_part12_skel; dsimp only
  iintro H Hk
  iapply (issueIn f c0) $$ H
  iintro H
  iapply (issueIn f c1) $$ H
  iintro H
  iapply (issueIn f c2) $$ H
  iintro H
  iapply (issueIn f c3) $$ H
  iintro H
  iapply (issueIn f c4) $$ H
  iintro H
  iapply (issueIn f c5) $$ H
  iintro H
  sl_step
  iapply Hk
  iexact H

theorem part13_run {Q : _ → sProp 𝕄} : At 6 (I0 c f) (I1 c f)
    ⊢ iprop((At 11 (I0 c f) (I1 c f) -∗ Q k0_pay288) -∗ wp frame (wpE (defs₀ (F := F)) 𝒱 (c : Thread nD τ) bd) Set.univ (k0_part13 (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4) Q) := by
  rw [k0_part13_eq_skeleton]; unfold k0_part13_skel; dsimp only
  iintro H Hk
  iapply (issueIn f c6) $$ H
  iintro H
  iapply (issueIn f c7) $$ H
  iintro H
  iapply (issueIn f c8) $$ H
  iintro H
  iapply (issueIn f c9) $$ H
  iintro H
  iapply (issueIn f c10) $$ H
  iintro H
  sl_step
  iapply Hk
  iexact H

/-- The running maximum before chunk `n`. -/
def accC (f : Vec F S2816x4096 .bf16) : ℕ → FVec F S32x128 .bf16
  | 0 => k0_pay288
  | n + 1 => if h : n < 11 then accN amaxG f ⟨n, h⟩ (accC f n) 8 else accC f n
theorem accC_succ (f : Vec F S2816x4096 .bf16) (n : ℕ) (h : n < 11) : accN amaxG f ⟨n, h⟩ (accC f n) 8 = accC f (n + 1) := by
  rw [accC, dif_pos h]

theorem part14_run (k0_h1 : k0_cond1 i = 1#1) {Q : _ → sProp 𝕄} : iprop(At 0 (I1 c f) (I2 c f) ∗ ∃ W, owes (c : Thread nD τ) 0 W)
    ⊢ iprop((iprop(At 4 (I1 c f) (I2 c f) ∗ ∃ W, owes (c : Thread nD τ) 0 W) -∗ Q (accC f 4)) -∗ wp frame (wpE (defs₀ (F := F)) 𝒱 (c : Thread nD τ) bd) Set.univ (k0_part14 (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4 k0_h1 (accC f 0)) Q) := by
  rw [k0_part14_eq_skeleton]; unfold k0_part14_skel; dsimp only
  iintro ⟨H, HO⟩ Hk
  iapply (waitIn f c0) $$ [H HO]
  · isplitl [H] <;> iassumption
  iintro ⟨H, HO⟩
  iapply (amaxLoop f 1 c0 (by decide) (I1 c f) k0_t1_loop (k0_t1_ok i k0_h1) (by decide) k0_off1 (by decide +kernel) (fun k => k0_off1_inb i k k0_h1)
    (fun k => View.loadsAt_vmem h_S32x4096) amaxG _ _ (fun _ _ => rfl)) $$ H
  iintro H
  rw [show accN amaxG f c0 (accC f 0) 8 = accC f 1 from accC_succ f 0 (by decide)]
  iapply (waitIn f c1) $$ [H HO]
  · isplitl [H] <;> iassumption
  iintro ⟨H, HO⟩
  iapply (amaxLoop f 2 c1 (by decide) (I1 c f) k0_t2_loop (k0_t2_ok i k0_h1) (by decide) k0_off2 (by decide +kernel) (fun k => k0_off2_inb i k k0_h1)
    (fun k => View.loadsAt_vmem h_S32x4096) amaxG _ _ (fun _ _ => rfl)) $$ H
  iintro H
  rw [show accN amaxG f c1 (accC f 1) 8 = accC f 2 from accC_succ f 1 (by decide)]
  iapply (waitIn f c2) $$ [H HO]
  · isplitl [H] <;> iassumption
  iintro ⟨H, HO⟩
  iapply (amaxLoop f 3 c2 (by decide) (I1 c f) k0_t3_loop (k0_t3_ok i k0_h1) (by decide) k0_off3 (by decide +kernel) (fun k => k0_off3_inb i k k0_h1)
    (fun k => View.loadsAt_vmem h_S32x4096) amaxG _ _ (fun _ _ => rfl)) $$ H
  iintro H
  rw [show accN amaxG f c2 (accC f 2) 8 = accC f 3 from accC_succ f 2 (by decide)]
  iapply (waitIn f c3) $$ [H HO]
  · isplitl [H] <;> iassumption
  iintro ⟨H, HO⟩
  iapply (amaxLoop f 4 c3 (by decide) (I1 c f) k0_t4_loop (k0_t4_ok i k0_h1) (by decide) k0_off4 (by decide +kernel) (fun k => k0_off4_inb i k k0_h1)
    (fun k => View.loadsAt_vmem h_S32x4096) amaxG _ _ (fun _ _ => rfl)) $$ H
  iintro H
  rw [show accN amaxG f c3 (accC f 3) 8 = accC f 4 from accC_succ f 3 (by decide)]
  sl_step
  iapply Hk
  isplitl [H] <;> iassumption

theorem part15_run (k0_h1 : k0_cond1 i = 1#1) {Q : _ → sProp 𝕄} : iprop(At 4 (I1 c f) (I2 c f) ∗ ∃ W, owes (c : Thread nD τ) 0 W)
    ⊢ iprop((iprop(At 8 (I1 c f) (I2 c f) ∗ ∃ W, owes (c : Thread nD τ) 0 W) -∗ Q (accC f 8)) -∗ wp frame (wpE (defs₀ (F := F)) 𝒱 (c : Thread nD τ) bd) Set.univ (k0_part15 (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4 k0_h1 (accC f 4)) Q) := by
  rw [k0_part15_eq_skeleton]; unfold k0_part15_skel; dsimp only
  iintro ⟨H, HO⟩ Hk
  iapply (waitIn f c4) $$ [H HO]
  · isplitl [H] <;> iassumption
  iintro ⟨H, HO⟩
  iapply (amaxLoop f 5 c4 (by decide) (I1 c f) k0_t5_loop (k0_t5_ok i k0_h1) (by decide) k0_off5 (by decide +kernel) (fun k => k0_off5_inb i k k0_h1)
    (fun k => View.loadsAt_vmem h_S32x4096) amaxG _ _ (fun _ _ => rfl)) $$ H
  iintro H
  rw [show accN amaxG f c4 (accC f 4) 8 = accC f 5 from accC_succ f 4 (by decide)]
  iapply (waitIn f c5) $$ [H HO]
  · isplitl [H] <;> iassumption
  iintro ⟨H, HO⟩
  iapply (amaxLoop f 6 c5 (by decide) (I1 c f) k0_t6_loop (k0_t6_ok i k0_h1) (by decide) k0_off6 (by decide +kernel) (fun k => k0_off6_inb i k k0_h1)
    (fun k => View.loadsAt_vmem h_S32x4096) amaxG _ _ (fun _ _ => rfl)) $$ H
  iintro H
  rw [show accN amaxG f c5 (accC f 5) 8 = accC f 6 from accC_succ f 5 (by decide)]
  iapply (waitIn f c6) $$ [H HO]
  · isplitl [H] <;> iassumption
  iintro ⟨H, HO⟩
  iapply (amaxLoop f 7 c6 (by decide) (I1 c f) k0_t7_loop (k0_t7_ok i k0_h1) (by decide) k0_off7 (by decide +kernel) (fun k => k0_off7_inb i k k0_h1)
    (fun k => View.loadsAt_vmem h_S32x4096) amaxG _ _ (fun _ _ => rfl)) $$ H
  iintro H
  rw [show accN amaxG f c6 (accC f 6) 8 = accC f 7 from accC_succ f 6 (by decide)]
  iapply (waitIn f c7) $$ [H HO]
  · isplitl [H] <;> iassumption
  iintro ⟨H, HO⟩
  iapply (amaxLoop f 8 c7 (by decide) (I1 c f) k0_t8_loop (k0_t8_ok i k0_h1) (by decide) k0_off8 (by decide +kernel) (fun k => k0_off8_inb i k k0_h1)
    (fun k => View.loadsAt_vmem h_S32x4096) amaxG _ _ (fun _ _ => rfl)) $$ H
  iintro H
  rw [show accN amaxG f c7 (accC f 7) 8 = accC f 8 from accC_succ f 7 (by decide)]
  sl_step
  iapply Hk
  isplitl [H] <;> iassumption

/-- The scale words of the weight as the kernel computes them, from its running maximum. -/
def wAmax (f : Vec F S2816x4096 .bf16) : FVec F S1x1 .f32 := k0_pay311 (accC f 11)
def wE1 (f : Vec F S2816x4096 .bf16) : IVec S1x1 32 := k0_pay313 (wAmax f) k0_pay312
def wE2 (f : Vec F S2816x4096 .bf16) : IVec S1x1 32 := k0_pay314 (wAmax f) k0_pay312
def wE3 (f : Vec F S2816x4096 .bf16) : IVec S1x1 32 := k0_pay315 (wAmax f) k0_pay312
/-- The weight's scale, its copies in vector memory, and one quantised group of 32 rows. -/
def wsV (f : Vec F S2816x4096 .bf16) : FVec F S1x1 .f32 := k0_pay317 (wAmax f) (wE1 f) (wE2 f) (wE3 f)
def ws10 (f : Vec F S2816x4096 .bf16) : FVec F S8x128 .f32 := k0_pay318 (wAmax f) (wE1 f) (wE2 f) (wE3 f)
def wInv (f : Vec F S2816x4096 .bf16) : FVec F S32x4096 .f32 := k0_pay319 (wAmax f) (wE1 f) (wE2 f) (wE3 f)
def wPay (f : Vec F S2816x4096 .bf16) (v : Vec F S32x4096 .bf16) : FVec F S32x4096 .fp8e4m3 := k0_pay321 (wInv f) v
/-- The quantised weight. -/
abbrev WQ (f : Vec F S2816x4096 .bf16) : Vec F S2816x4096 .fp8e4m3 := wqOf (wPay f) f

theorem part16_run (k0_h1 : k0_cond1 i = 1#1) {Q : _ → sProp 𝕄} : iprop(At 8 (I1 c f) (I2 c f) ∗ ∃ W, owes (c : Thread nD τ) 0 W)
    ⊢ iprop((iprop(At 11 (I1 c f) (I2 c f) ∗ ∃ W, owes (c : Thread nD τ) 0 W) -∗ Q ⟨wAmax f, k0_pay312⟩) -∗ wp frame (wpE (defs₀ (F := F)) 𝒱 (c : Thread nD τ) bd) Set.univ (k0_part16 (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4 k0_h1 (accC f 8)) Q) := by
  rw [k0_part16_eq_skeleton]; unfold k0_part16_skel; dsimp only
  iintro ⟨H, HO⟩ Hk
  iapply (waitIn f c8) $$ [H HO]
  · isplitl [H] <;> iassumption
  iintro ⟨H, HO⟩
  iapply (amaxLoop f 9 c8 (by decide) (I1 c f) k0_t9_loop (k0_t9_ok i k0_h1) (by decide) k0_off9 (by decide +kernel) (fun k => k0_off9_inb i k k0_h1)
    (fun k => View.loadsAt_vmem h_S32x4096) amaxG _ _ (fun _ _ => rfl)) $$ H
  iintro H
  rw [show accN amaxG f c8 (accC f 8) 8 = accC f 9 from accC_succ f 8 (by decide)]
  iapply (waitIn f c9) $$ [H HO]
  · isplitl [H] <;> iassumption
  iintro ⟨H, HO⟩
  iapply (amaxLoop f 10 c9 (by decide) (I1 c f) k0_t10_loop (k0_t10_ok i k0_h1) (by decide) k0_off10 (by decide +kernel) (fun k => k0_off10_inb i k k0_h1)
    (fun k => View.loadsAt_vmem h_S32x4096) amaxG _ _ (fun _ _ => rfl)) $$ H
  iintro H
  rw [show accN amaxG f c9 (accC f 9) 8 = accC f 10 from accC_succ f 9 (by decide)]
  iapply (waitIn f c10) $$ [H HO]
  · isplitl [H] <;> iassumption
  iintro ⟨H, HO⟩
  iapply (amaxLoop f 11 c10 (by decide) (I1 c f) k0_t11_loop (k0_t11_ok i k0_h1) (by decide) k0_off11 (by decide +kernel) (fun k => k0_off11_inb i k k0_h1)
    (fun k => View.loadsAt_vmem h_S32x4096) amaxG _ _ (fun _ _ => rfl)) $$ H
  iintro H
  rw [show accN amaxG f c10 (accC f 10) 8 = accC f 11 from accC_succ f 10 (by decide)]
  sl_step
  rw [show k0_pay311 (accC f 11) = wAmax f from rfl]

  iapply Hk
  isplitl [H] <;> iassumption

/-- A store over a whole buffer, and over one held in the vector memory entirely. -/
theorem w10_eq (c : Dev nD) (g : Buf (Elt F) (A10.view.loc (c : Thread nD τ))) (w : Vec F S8x128 .f32) (h : ∀ a, (![0, 0] : Fin 2 → ℕ) a + S8x128.size a ≤ S8x128.size a) :
    (A10.access (Rect.unit (s := S8x128) ![0, 0] S8x128.size h)).write (Elt F) g w Finset.univ = (w : Buf (Elt F) (A10.view.loc (c : Thread nD τ))) := by
  funext x
  have hx : ((A10.access (Rect.unit (s := S8x128) ![0, 0] S8x128.size h)).emb (x : S8x128.Idx) : S8x128.Idx) = x := by
    funext a
    match a with
    | ⟨0, _⟩ => exact Fin.ext ((Nat.zero_add _).trans (Nat.one_mul _))
    | ⟨1, _⟩ => exact Fin.ext ((Nat.zero_add _).trans (Nat.one_mul _))
  have := View.write_emb_of_mem (Val := Elt F) (v := A10.access (Rect.unit (s := S8x128) ![0, 0] S8x128.size h)) (M := Finset.univ) g w (x := (x : S8x128.Idx)) (Finset.mem_univ _)
  rw [hx] at this
  exact this

/-- What the first step leaves in the weight-scale window. -/
def wsBuf (c : Dev nD) (f : Vec F S2816x4096 .bf16) (g5 : Buf (Elt F) (arg5.view.loc (c : Thread nD τ))) : Buf (Elt F) (arg5.view.loc (c : Thread nD τ)) :=
  (arg5.access (Rect.unit (s := S1x1) ![0, 0] S1x1.size inb_S1x1_S1x1_0_0)).write (Elt F) g5 (wsV f) Finset.univ

theorem part18_run (k0_h1 : k0_cond1 i = 1#1) (g5 : Buf (Elt F) (arg5.view.loc (c : Thread nD τ))) (g10 : Buf (Elt F) (A10.view.loc (c : Thread nD τ))) {Q : _ → sProp 𝕄} :
    iprop(At 0 (B0 c f) (B2 c f (WQ f)) ∗ (arg5.view.loc (c : Thread nD τ) ↦{fullShare} g5) ∗ (A10.view.loc (c : Thread nD τ) ↦{fullShare} g10))
    ⊢ iprop((iprop(Mid c f (WQ f) c0 ∗ (arg5.view.loc (c : Thread nD τ) ↦{fullShare} wsBuf arg5 c f g5) ∗ (A10.view.loc (c : Thread nD τ) ↦{fullShare} (ws10 f : Buf (Elt F) (A10.view.loc (c : Thread nD τ))))) -∗ Q (wInv f))
      -∗ wp frame (wpE (defs₀ (F := F)) 𝒱 (c : Thread nD τ) bd) Set.univ (k0_part18 (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4 k0_h1 (wAmax f) (wE1 f) (wE2 f) (wE3 f)) Q) := by
  rw [k0_part18_eq_skeleton]; unfold k0_part18_skel wsBuf; dsimp only
  iintro ⟨H, H5, H10⟩ Hk
  iapply (wp_load 𝒱 (c : Thread nD τ) bd Set.univ (m := arg5) (Finset.subset_univ _)) $$ H5
  iintro H5
  iapply (wp_store 𝒱 (c : Thread nD τ) bd Set.univ (m := arg5) (r := Rect.unit (s := S1x1) ![0, 0] S1x1.size inb_S1x1_S1x1_0_0) (w := wsV f) (f := g5) (Finset.subset_univ _)) $$ H5
  iintro H5
  iapply (wp_load 𝒱 (c : Thread nD τ) bd Set.univ (m := A10) (Finset.subset_univ _)) $$ H10
  iintro H10
  iapply (wp_store 𝒱 (c : Thread nD τ) bd Set.univ (m := A10) (r := Rect.unit (s := S8x128) ![0, 0] S8x128.size inb_S8x128_S8x128_0_0) (w := ws10 f) (f := g10) (Finset.subset_univ _)) $$ H10
  iintro H10
  rw [w10_eq c g10 _ _]
  iapply (quantLoop (wPay f) f c0 k0_t12_loop (k0_t12_ok i k0_h1) (by decide) k0_off12 (by decide +kernel) (fun k => k0_off12_inb i k k0_h1)
    (fun k => View.loadsAt_vmem h_S32x4096) (fun k => View.loadsAt_vmem h_S32x4096)
    (fun k => View.stores_vmem h_S32x4096 ((Memref.isWhole_whole cc0_scratch1).storeExact_slice rfl _ (k0_off12_packedfp8e4m3 i k k0_h1)) (fun _ => rfl)) _ (fun _ _ => rfl)) $$ H
  iintro H

  sl_step
  rw [show k0_pay319 (wAmax f) (wE1 f) (wE2 f) (wE3 f) = wInv f from rfl]
  iapply Hk
  isplitl [H]; · iexact H
  isplitl [H5] <;> iassumption

theorem part19_run (k0_h1 : k0_cond1 i = 1#1) {Q : _ → sProp 𝕄} : Mid c f (WQ f) c0
    ⊢ iprop((Mid c f (WQ f) c4 -∗ Q ⟨⟩) -∗ wp frame (wpE (defs₀ (F := F)) 𝒱 (c : Thread nD τ) bd) Set.univ (k0_part19 (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4 k0_h1 (wInv f)) Q) := by
  rw [k0_part19_eq_skeleton]; unfold k0_part19_skel; dsimp only
  iintro H Hk
  iapply (issueOut f (WQ f) c0) $$ H
  iintro H
  iapply (quantLoop (wPay f) f c1 k0_t13_loop (k0_t13_ok i k0_h1) (by decide) k0_off13 (by decide +kernel) (fun k => k0_off13_inb i k k0_h1)
    (fun k => View.loadsAt_vmem h_S32x4096) (fun k => View.loadsAt_vmem h_S32x4096)
    (fun k => View.stores_vmem h_S32x4096 ((Memref.isWhole_whole cc0_scratch1).storeExact_slice rfl _ (k0_off13_packedfp8e4m3 i k k0_h1)) (fun _ => rfl)) _ (fun _ _ => rfl)) $$ H
  iintro H
  iapply (issueOut f (WQ f) c1) $$ H
  iintro H
  iapply (quantLoop (wPay f) f c2 k0_t14_loop (k0_t14_ok i k0_h1) (by decide) k0_off14 (by decide +kernel) (fun k => k0_off14_inb i k k0_h1)
    (fun k => View.loadsAt_vmem h_S32x4096) (fun k => View.loadsAt_vmem h_S32x4096)
    (fun k => View.stores_vmem h_S32x4096 ((Memref.isWhole_whole cc0_scratch1).storeExact_slice rfl _ (k0_off14_packedfp8e4m3 i k k0_h1)) (fun _ => rfl)) _ (fun _ _ => rfl)) $$ H
  iintro H
  iapply (issueOut f (WQ f) c2) $$ H
  iintro H
  iapply (quantLoop (wPay f) f c3 k0_t15_loop (k0_t15_ok i k0_h1) (by decide) k0_off15 (by decide +kernel) (fun k => k0_off15_inb i k k0_h1)
    (fun k => View.loadsAt_vmem h_S32x4096) (fun k => View.loadsAt_vmem h_S32x4096)
    (fun k => View.stores_vmem h_S32x4096 ((Memref.isWhole_whole cc0_scratch1).storeExact_slice rfl _ (k0_off15_packedfp8e4m3 i k k0_h1)) (fun _ => rfl)) _ (fun _ _ => rfl)) $$ H
  iintro H
  iapply (issueOut f (WQ f) c3) $$ H
  iintro H
  iapply (quantLoop (wPay f) f c4 k0_t16_loop (k0_t16_ok i k0_h1) (by decide) k0_off16 (by decide +kernel) (fun k => k0_off16_inb i k k0_h1)
    (fun k => View.loadsAt_vmem h_S32x4096) (fun k => View.loadsAt_vmem h_S32x4096)
    (fun k => View.stores_vmem h_S32x4096 ((Memref.isWhole_whole cc0_scratch1).storeExact_slice rfl _ (k0_off16_packedfp8e4m3 i k k0_h1)) (fun _ => rfl)) _ (fun _ _ => rfl)) $$ H
  iintro H

  sl_step
  iapply Hk
  iexact H

theorem part20_run (k0_h1 : k0_cond1 i = 1#1) {Q : _ → sProp 𝕄} : Mid c f (WQ f) c4
    ⊢ iprop((At 8 (B0 c f) (B2 c f (WQ f)) -∗ Q ⟨0#32, 8#32⟩) -∗ wp frame (wpE (defs₀ (F := F)) 𝒱 (c : Thread nD τ) bd) Set.univ (k0_part20 (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4 k0_h1 (wInv f)) Q) := by
  rw [k0_part20_eq_skeleton]; unfold k0_part20_skel; dsimp only
  iintro H Hk
  iapply (issueOut f (WQ f) c4) $$ H
  iintro H
  iapply (quantLoop (wPay f) f c5 k0_t17_loop (k0_t17_ok i k0_h1) (by decide) k0_off17 (by decide +kernel) (fun k => k0_off17_inb i k k0_h1)
    (fun k => View.loadsAt_vmem h_S32x4096) (fun k => View.loadsAt_vmem h_S32x4096)
    (fun k => View.stores_vmem h_S32x4096 ((Memref.isWhole_whole cc0_scratch1).storeExact_slice rfl _ (k0_off17_packedfp8e4m3 i k k0_h1)) (fun _ => rfl)) _ (fun _ _ => rfl)) $$ H
  iintro H
  iapply (issueOut f (WQ f) c5) $$ H
  iintro H
  iapply (quantLoop (wPay f) f c6 k0_t18_loop (k0_t18_ok i k0_h1) (by decide) k0_off18 (by decide +kernel) (fun k => k0_off18_inb i k k0_h1)
    (fun k => View.loadsAt_vmem h_S32x4096) (fun k => View.loadsAt_vmem h_S32x4096)
    (fun k => View.stores_vmem h_S32x4096 ((Memref.isWhole_whole cc0_scratch1).storeExact_slice rfl _ (k0_off18_packedfp8e4m3 i k k0_h1)) (fun _ => rfl)) _ (fun _ _ => rfl)) $$ H
  iintro H
  iapply (issueOut f (WQ f) c6) $$ H
  iintro H
  iapply (quantLoop (wPay f) f c7 k0_t19_loop (k0_t19_ok i k0_h1) (by decide) k0_off19 (by decide +kernel) (fun k => k0_off19_inb i k k0_h1)
    (fun k => View.loadsAt_vmem h_S32x4096) (fun k => View.loadsAt_vmem h_S32x4096)
    (fun k => View.stores_vmem h_S32x4096 ((Memref.isWhole_whole cc0_scratch1).storeExact_slice rfl _ (k0_off19_packedfp8e4m3 i k k0_h1)) (fun _ => rfl)) _ (fun _ _ => rfl)) $$ H
  iintro H
  iapply (issueOut f (WQ f) c7) $$ H
  iintro H

  sl_step
  iapply Hk
  iexact H

end Cert.KernelIdeal.Hand
-- ==== Proof.State.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import proofs.«01_k».proof.Proof.Init
public import Idealize.ShloMosaic.Lib.ViewIndex

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A buffer held whole is held chunk by chunk -/

theorem chunk_mem {sp : Space} {e : EltTy} (M : Memref sig .tc sp S2816x4096 e) (r : Fin 11) (x : S2816x4096.Idx)
    (h0 : 256 * r.val ≤ (x 0).val) (h1 : (x 0).val < 256 * r.val + 256) : M.view.emb x ∈ (chk M (256 * r.val) (inbo r)).view.set := by
  show _ ∈ (M.view.slice (Rect.unit (s := S2816x4096) ![256 * r.val, 0] S256x4096.size (inbo r))).set
  rw [View.set_slice]
  refine Finset.mem_map_of_mem _ (Rect.mem_set_unit.mpr (Fin.forall_fin_two.mpr ⟨⟨h0, h1⟩, Nat.zero_le _, ?_⟩))
  show (x 1).val < 0 + 4096
  have : (x 1).val < 4096 := (x 1).isLt
  omega

theorem chunk_disj {sp : Space} {e : EltTy} (M : Memref sig .tc sp S2816x4096 e) (r r' : Fin 11) (hne : r ≠ r') :
    Disjoint (chk M (256 * r.val) (inbo r)).view.set (chk M (256 * r'.val) (inbo r')).view.set := by
  have h : Disjoint (M.view.slice (Rect.unit (s := S2816x4096) ![256 * r.val, 0] S256x4096.size (inbo r))).set
      (M.view.slice (Rect.unit (s := S2816x4096) ![256 * r'.val, 0] S256x4096.size (inbo r'))).set := by
    refine View.disjoint_slice (Rect.unit_disjoint (0 : Fin 2) ?_)
    have : r.val ≠ r'.val := fun h => hne (Fin.ext h)
    show 256 * r.val + 256 ≤ 256 * r'.val ∨ 256 * r'.val + 256 ≤ 256 * r.val
    omega
  exact h

theorem chunk_cover {sp : Space} {e : EltTy} (M : Memref sig .tc sp S2816x4096 e) (hM : M.IsWhole) (i : M.view.ty.Idx) :
    ∃ r : Fin 11, i ∈ (chk M (256 * r.val) (inbo r)).view.set := by
  have hi : i ∈ M.view.set := by rw [hM.set_eq_univ]; exact Finset.mem_univ _
  obtain ⟨x, -, rfl⟩ := Finset.mem_map.mp hi
  have hx : (x 0).val < 2816 := (x 0).isLt
  obtain ⟨r, hr⟩ : ∃ r : Fin 11, r.val = (x 0).val / 256 := ⟨⟨(x 0).val / 256, by omega⟩, rfl⟩
  exact ⟨r, chunk_mem M r x (by omega) (by omega)⟩

theorem chunks_eq (c : Dev nD) {sp : Space} {e : EltTy} (M : Memref sig .tc sp S2816x4096 e) (hM : M.IsWhole) (q : PosShare TreeShare)
    (f : Buf (Elt F) (M.view.loc (c : Thread nD τ))) :
    (M.view.loc (c : Thread nD τ) ↦{q} f : sProp 𝕄) = bigSep Finset.univ fun r : Fin 11 => ck c M r q f :=
  Ring.pointsTo_blocks (ℓ := M.view.loc (c : Thread nD τ)) (fun r : Fin 11 => (chk M (256 * r.val) (inbo r)).view.set)
    (chunk_disj M) (Finset.eq_univ_iff_forall.mpr fun i => by
      obtain ⟨r, hr⟩ := chunk_cover M hM i
      exact Finset.mem_biUnion.mpr ⟨r, Finset.mem_univ _, hr⟩) f

/-- The eleven cells of a row at zero. -/
def sems (c : Dev nD) (s : Fin 11 → DmaSem sig) : sProp 𝕄 := bigSep Finset.univ fun r : Fin 11 => semVal ((c : Thread nD τ), SemLoc.dma (s r)) 0

/-- What the first step starts from and what it leaves. -/
def S0 (c : Dev nD) (f : Vec F S2816x4096 .bf16) : sProp 𝕄 :=
  iprop((A1.view.loc (c : Thread nD τ) ↦{fullShare} (f : Buf (Elt F) (A1.view.loc (c : Thread nD τ)))) ∗ (∃ g, A8.view.loc (c : Thread nD τ) ↦{fullShare} g)
    ∗ (∃ g, A9.view.loc (c : Thread nD τ) ↦{fullShare} g) ∗ (∃ g, A4.view.loc (c : Thread nD τ) ↦{fullShare} g) ∗ sems c sem11 ∗ sems c sem12)
def S1 (c : Dev nD) (f : Vec F S2816x4096 .bf16) : sProp 𝕄 :=
  iprop((A1.view.loc (c : Thread nD τ) ↦{fullShare} (f : Buf (Elt F) (A1.view.loc (c : Thread nD τ)))) ∗ (A8.view.loc (c : Thread nD τ) ↦{fullShare} (f : Buf (Elt F) (A8.view.loc (c : Thread nD τ))))
    ∗ (A9.view.loc (c : Thread nD τ) ↦{fullShare.left} (WQ f : Buf (Elt F) (A9.view.loc (c : Thread nD τ)))) ∗ sems c sem11
    ∗ bigSep Finset.univ (O2 c (WQ f)))
/-- What the last step leaves. -/
def S2 (c : Dev nD) (f : Vec F S2816x4096 .bf16) : sProp 𝕄 :=
  iprop((A1.view.loc (c : Thread nD τ) ↦{fullShare} (f : Buf (Elt F) (A1.view.loc (c : Thread nD τ)))) ∗ (A8.view.loc (c : Thread nD τ) ↦{fullShare} (f : Buf (Elt F) (A8.view.loc (c : Thread nD τ))))
    ∗ (A9.view.loc (c : Thread nD τ) ↦{fullShare} (WQ f : Buf (Elt F) (A9.view.loc (c : Thread nD τ)))) ∗ (A4.view.loc (c : Thread nD τ) ↦{fullShare} (WQ f : Buf (Elt F) (A4.view.loc (c : Thread nD τ))))
    ∗ sems c sem11 ∗ sems c sem12)

theorem bigSep_sep' (Φ Ψ : Fin 11 → sProp 𝕄) : bigSep Finset.univ (fun i => iprop(Φ i ∗ Ψ i)) = iprop(bigSep Finset.univ Φ ∗ bigSep Finset.univ Ψ) :=
  BI.bigSep_sep Finset.univ Φ Ψ

theorem ck_some (c : Dev nD) {sp : Space} {e : EltTy} (M : Memref sig .tc sp S2816x4096 e) (g : Buf (Elt F) (M.view.loc (c : Thread nD τ))) (r : Fin 11) :
    iprop(ck c M r fullShare g) ⊢ (iprop(∃ g, ck c M r fullShare g) : sProp 𝕄) := by
  iintro H; iexists g; iexact H

theorem chunks_mono (c : Dev nD) {sp : Space} {e : EltTy} (M : Memref sig .tc sp S2816x4096 e) (g : Buf (Elt F) (M.view.loc (c : Thread nD τ))) :
    iprop(bigSep Finset.univ (fun r : Fin 11 => ck c M r fullShare g)) ⊢ (iprop(bigSep Finset.univ fun r : Fin 11 => iprop(∃ g, ck c M r fullShare g)) : sProp 𝕄) :=
  BI.bigSep_mono fun r _ => ck_some c M g r

theorem chunks_some (c : Dev nD) {sp : Space} {e : EltTy} (M : Memref sig .tc sp S2816x4096 e) (hM : M.IsWhole) :
    (iprop(∃ g, M.view.loc (c : Thread nD τ) ↦{fullShare} g) : sProp 𝕄) ⊢ bigSep Finset.univ fun r : Fin 11 => iprop(∃ g, ck c M r fullShare g) := by
  iintro ⟨%g, H⟩
  rw [chunks_eq c M hM fullShare g]
  exact chunks_mono c M g

/-- The part of the state that the quantisation starts from, apart from the weight in vector memory. -/
def B0' (c : Dev nD) (r : Fin 11) : sProp 𝕄 :=
  iprop((∃ g, ck c A9 r fullShare g) ∗ (∃ g, ck c A4 r fullShare g) ∗ semVal ((c : Thread nD τ), SemLoc.dma (sem12 r)) 0)

theorem S0_open (c : Dev nD) (f : Vec F S2816x4096 .bf16) : S0 c f ⊢ iprop(At 0 (I0 c f) (I1 c f) ∗ bigSep Finset.univ (B0' c)) := by
  unfold S0 sems
  rw [At_zero]
  rw [show (bigSep Finset.univ (I0 c f) : sProp 𝕄) = iprop((bigSep Finset.univ fun r : Fin 11 => ck c A1 r fullShare f)
      ∗ (bigSep Finset.univ fun r : Fin 11 => iprop(∃ g, ck c A8 r fullShare g)) ∗ bigSep Finset.univ fun r : Fin 11 => semVal ((c : Thread nD τ), SemLoc.dma (sem11 r)) 0) from by
    rw [← bigSep_sep', ← bigSep_sep']; rfl,
    show (bigSep Finset.univ (B0' c) : sProp 𝕄) = iprop((bigSep Finset.univ fun r : Fin 11 => iprop(∃ g, ck c A9 r fullShare g))
      ∗ (bigSep Finset.univ fun r : Fin 11 => iprop(∃ g, ck c A4 r fullShare g)) ∗ bigSep Finset.univ fun r : Fin 11 => semVal ((c : Thread nD τ), SemLoc.dma (sem12 r)) 0) from by
    rw [← bigSep_sep', ← bigSep_sep']; rfl, chunks_eq c A1 (Memref.isWhole_whole _) fullShare f]
  iintro ⟨H1, H8, H9, H4, Hs, Ht⟩
  ihave H8 := (chunks_some c A8 (Memref.isWhole_whole _)) $$ H8
  ihave H9 := (chunks_some c A9 (Memref.isWhole_whole _)) $$ H9
  ihave H4 := (chunks_some c A4 (Memref.isWhole_whole _)) $$ H4
  isplitl [H1 H8 Hs]
  · isplitl [H1]; · iexact H1
    isplitl [H8] <;> iassumption
  · isplitl [H9]; · iexact H9
    isplitl [H4] <;> iassumption

/-- The weight landed: its buffer in HBM and its cells come back, and the quantisation may start. -/
theorem landed_open (c : Dev nD) (f : Vec F S2816x4096 .bf16) :
    iprop(At 11 (I1 c f) (I2 c f) ∗ bigSep Finset.univ (B0' c))
      ⊢ iprop((A1.view.loc (c : Thread nD τ) ↦{fullShare} (f : Buf (Elt F) (A1.view.loc (c : Thread nD τ)))) ∗ sems c sem11 ∗ At 0 (B0 c f) (B2 c f (WQ f))) := by
  unfold sems
  rw [At_zero, At_last, chunks_eq c A1 (Memref.isWhole_whole _) fullShare f,
    show (bigSep Finset.univ (I2 c f) : sProp 𝕄) = iprop((bigSep Finset.univ fun r : Fin 11 => ck c A1 r fullShare f)
      ∗ (bigSep Finset.univ fun r : Fin 11 => ck c A8 r fullShare f) ∗ bigSep Finset.univ fun r : Fin 11 => semVal ((c : Thread nD τ), SemLoc.dma (sem11 r)) 0) from by
    rw [← bigSep_sep', ← bigSep_sep']; rfl,
    show (bigSep Finset.univ (B0 c f) : sProp 𝕄) = iprop((bigSep Finset.univ fun r : Fin 11 => ck c A8 r fullShare f) ∗ bigSep Finset.univ (B0' c)) from by
    rw [← bigSep_sep']; rfl]
  iintro ⟨⟨H1, H8, Hs⟩, HB⟩
  isplitl [H1]; · iexact H1
  isplitl [Hs]; · iexact Hs
  isplitl [H8] <;> iassumption

theorem quant_close (c : Dev nD) (f : Vec F S2816x4096 .bf16) :
    iprop((A1.view.loc (c : Thread nD τ) ↦{fullShare} (f : Buf (Elt F) (A1.view.loc (c : Thread nD τ)))) ∗ sems c sem11 ∗ At 11 (B0 c f) (B2 c f (WQ f))) ⊢ S1 c f := by
  unfold S1
  rw [At_last, chunks_eq c A8 (Memref.isWhole_whole _) fullShare f, chunks_eq c A9 (Memref.isWhole_whole _) fullShare.left (WQ f),
    show (bigSep Finset.univ (B2 c f (WQ f)) : sProp 𝕄) = iprop((bigSep Finset.univ fun r : Fin 11 => ck c A8 r fullShare f)
      ∗ (bigSep Finset.univ fun r : Fin 11 => ck c A9 r fullShare.left (WQ f)) ∗ bigSep Finset.univ (O2 c (WQ f))) from by
    rw [← bigSep_sep', ← bigSep_sep']; rfl]
  iintro ⟨H1, Hs, H8, H9, HO⟩
  isplitl [H1]; · iexact H1
  isplitl [H8]; · iexact H8
  isplitl [H9]; · iexact H9
  isplitl [Hs] <;> iassumption

/-- The copies of the quantised weight landed: its two buffers are whole again. -/
theorem out_close (c : Dev nD) (f : Vec F S2816x4096 .bf16) :
    iprop((A1.view.loc (c : Thread nD τ) ↦{fullShare} (f : Buf (Elt F) (A1.view.loc (c : Thread nD τ)))) ∗ (A8.view.loc (c : Thread nD τ) ↦{fullShare} (f : Buf (Elt F) (A8.view.loc (c : Thread nD τ))))
    ∗ (A9.view.loc (c : Thread nD τ) ↦{fullShare.left} (WQ f : Buf (Elt F) (A9.view.loc (c : Thread nD τ)))) ∗ sems c sem11
    ∗ At 11 (O2 c (WQ f)) (O3 c (WQ f))) ⊢ S2 c f := by
  unfold S2
  rw [At_last, chunks_eq c A4 (Memref.isWhole_whole _) fullShare (WQ f),
    show (bigSep Finset.univ (O3 c (WQ f)) : sProp 𝕄) = iprop((bigSep Finset.univ fun r : Fin 11 => ck c A4 r fullShare (WQ f))
      ∗ (bigSep Finset.univ fun r : Fin 11 => ck c A9 r fullShare.right (WQ f)) ∗ sems c sem12) from by
    unfold sems; rw [← bigSep_sep', ← bigSep_sep']; rfl, ← chunks_eq c A9 (Memref.isWhole_whole _) fullShare.right (WQ f)]
  iintro ⟨H1, H8, H9, Hs, H4, H9r, Ht⟩
  isplitl [H1]; · iexact H1
  isplitl [H8]; · iexact H8
  isplitl [H9 H9r]
  · iapply (pointsTo_share (PosShare.mem_left_op_right fullShare)).2 $$ [H9 H9r]
    isplitl [H9] <;> iassumption
  isplitl [H4]; · iexact H4
  isplitl [Hs] <;> iassumption

end Cert.KernelIdeal.Hand
-- ==== Proof.Core.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The weight's own part of the first step: streamed in, quantised, streamed out. -/
noncomputable def k0_init (i : grid0.Coords) (arg1 : Memref sig .tc .hbm S2816x4096 .bf16) (harg1 : arg1.IsWhole) (arg2 : Memref sig .tc .vmem S512x4096 .bf16) (harg2 : arg2.IsWhole) (arg3 : Memref sig .tc .vmem S512x2816 .bf16) (harg3 : arg3.IsWhole) (arg4 : Memref sig .tc .hbm S2816x4096 .fp8e4m3) (harg4 : arg4.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (arg8 : Memref sig .tc .vmem S2816x4096 .bf16) (harg8 : arg8.IsWhole) (arg9 : Memref sig .tc .vmem S2816x4096 .fp8e4m3) (harg9 : arg9.IsWhole) (arg10 : Memref sig .tc .vmem S8x128 .f32) (harg10 : arg10.IsWhole) (arg11 : DmaSems sig S11) (arg12 : DmaSems sig S11) (k0_h1 : k0_cond1 i = 1#1) :
    Prog (TpuEff nD τ sig (Elt F) Λ₀ .tc) PUnit := do
  k0_part12 i arg1 harg1 arg2 harg2 arg3 harg3 arg4 harg4 arg5 harg5 arg6 harg6 arg7 harg7 arg8 harg8 arg9 harg9 arg10 harg10 arg11 arg12
  let v1679 : FVec F S32x128 .bf16 ← k0_part13 i arg1 harg1 arg2 harg2 arg3 harg3 arg4 harg4 arg5 harg5 arg6 harg6 arg7 harg7 arg8 harg8 arg9 harg9 arg10 harg10 arg11 arg12
  let v1703 : FVec F S32x128 .bf16 ← k0_part14 i arg1 harg1 arg2 harg2 arg3 harg3 arg4 harg4 arg5 harg5 arg6 harg6 arg7 harg7 arg8 harg8 arg9 harg9 arg10 harg10 arg11 arg12 k0_h1 v1679
  let v1727 : FVec F S32x128 .bf16 ← k0_part15 i arg1 harg1 arg2 harg2 arg3 harg3 arg4 harg4 arg5 harg5 arg6 harg6 arg7 harg7 arg8 harg8 arg9 harg9 arg10 harg10 arg11 arg12 k0_h1 v1703
  let ⟨v1753, v1754⟩ : Σ' (v1753 : FVec F S1x1 .f32), IVec S1x1 32 ← k0_part16 i arg1 harg1 arg2 harg2 arg3 harg3 arg4 harg4 arg5 harg5 arg6 harg6 arg7 harg7 arg8 harg8 arg9 harg9 arg10 harg10 arg11 arg12 k0_h1 v1727
  let ⟨v1796, v1798, v1800⟩ : Σ' (v1796 : IVec S1x1 32) (v1798 : IVec S1x1 32), IVec S1x1 32 ← k0_part17 i arg1 harg1 arg2 harg2 arg3 harg3 arg4 harg4 arg5 harg5 arg6 harg6 arg7 harg7 arg8 harg8 arg9 harg9 arg10 harg10 arg11 arg12 v1753 v1754
  let v1835 : FVec F S32x4096 .f32 ← k0_part18 i arg1 harg1 arg2 harg2 arg3 harg3 arg4 harg4 arg5 harg5 arg6 harg6 arg7 harg7 arg8 harg8 arg9 harg9 arg10 harg10 arg11 arg12 k0_h1 v1753 v1796 v1798 v1800
  k0_part19 i arg1 harg1 arg2 harg2 arg3 harg3 arg4 harg4 arg5 harg5 arg6 harg6 arg7 harg7 arg8 harg8 arg9 harg9 arg10 harg10 arg11 arg12 k0_h1 v1835
  let ⟨c0_i32_565, c8_i32_566⟩ : Σ' (c0_i32_565 : BitVec 32), BitVec 32 ← k0_part20 i arg1 harg1 arg2 harg2 arg3 harg3 arg4 harg4 arg5 harg5 arg6 harg6 arg7 harg7 arg8 harg8 arg9 harg9 arg10 harg10 arg11 arg12 k0_h1 v1835
  Scf.Loop.for k0_t20_loop (k0_t20_ok i k0_h1) ⟨⟩ (k0_t20_body i arg1 harg1 arg2 harg2 arg3 harg3 arg4 harg4 arg5 harg5 arg6 harg6 arg7 harg7 arg8 harg8 arg9 harg9 arg10 harg10 arg11 arg12 k0_h1 v1835)
  let v1877 : DmaSems sig S1 := arg12.slice (Rect.unit (s := S11) ![8] S1.size inb_S11_S1_8)
  let v1878 : DmaSems sig S_ := v1877.squeeze S_ squeezes_S1_S_
  let v1879 : Memref sig .tc .hbm S256x4096 .fp8e4m3 := arg4.slice (Rect.unit (s := S2816x4096) ![2048, 0] S256x4096.size inb_S2816x4096_S256x4096_2048_0) (fun _ => rfl)
  let v1880 : Memref sig .tc .vmem S256x4096 .fp8e4m3 := arg9.slice (Rect.unit (s := S2816x4096) ![2048, 0] S256x4096.size inb_S2816x4096_S256x4096_2048_0) (fun _ => rfl)
  Prog.lift (.enqueueDma v1880 (.here v1879) (.dma v1878.sem) (harg9.wordExact_slice rfl _ wordsfp8e4m3_S2816x4096_S256x4096_2048_0) (harg4.wordExact_slice rfl _ wordsfp8e4m3_S2816x4096_S256x4096_2048_0) ⟨Or.inl rfl, trivial⟩)
  Scf.Loop.for k0_t21_loop (k0_t21_ok i k0_h1) ⟨⟩ (k0_t21_body i arg1 harg1 arg2 harg2 arg3 harg3 arg4 harg4 arg5 harg5 arg6 harg6 arg7 harg7 arg8 harg8 arg9 harg9 arg10 harg10 arg11 arg12 k0_h1 v1835)
  let v1882 : DmaSems sig S1 := arg12.slice (Rect.unit (s := S11) ![9] S1.size inb_S11_S1_9)
  let v1883 : DmaSems sig S_ := v1882.squeeze S_ squeezes_S1_S_
  let v1884 : Memref sig .tc .hbm S256x4096 .fp8e4m3 := arg4.slice (Rect.unit (s := S2816x4096) ![2304, 0] S256x4096.size inb_S2816x4096_S256x4096_2304_0) (fun _ => rfl)
  let v1885 : Memref sig .tc .vmem S256x4096 .fp8e4m3 := arg9.slice (Rect.unit (s := S2816x4096) ![2304, 0] S256x4096.size inb_S2816x4096_S256x4096_2304_0) (fun _ => rfl)
  Prog.lift (.enqueueDma v1885 (.here v1884) (.dma v1883.sem) (harg9.wordExact_slice rfl _ wordsfp8e4m3_S2816x4096_S256x4096_2304_0) (harg4.wordExact_slice rfl _ wordsfp8e4m3_S2816x4096_S256x4096_2304_0) ⟨Or.inl rfl, trivial⟩)
  Scf.Loop.for k0_t22_loop (k0_t22_ok i k0_h1) ⟨⟩ (k0_t22_body i arg1 harg1 arg2 harg2 arg3 harg3 arg4 harg4 arg5 harg5 arg6 harg6 arg7 harg7 arg8 harg8 arg9 harg9 arg10 harg10 arg11 arg12 k0_h1 v1835)
  let v1887 : DmaSems sig S1 := arg12.slice (Rect.unit (s := S11) ![10] S1.size inb_S11_S1_10)
  let v1888 : DmaSems sig S_ := v1887.squeeze S_ squeezes_S1_S_
  let v1889 : Memref sig .tc .hbm S256x4096 .fp8e4m3 := arg4.slice (Rect.unit (s := S2816x4096) ![2560, 0] S256x4096.size inb_S2816x4096_S256x4096_2560_0) (fun _ => rfl)
  let v1890 : Memref sig .tc .vmem S256x4096 .fp8e4m3 := arg9.slice (Rect.unit (s := S2816x4096) ![2560, 0] S256x4096.size inb_S2816x4096_S256x4096_2560_0) (fun _ => rfl)
  Prog.lift (.enqueueDma v1890 (.here v1889) (.dma v1888.sem) (harg9.wordExact_slice rfl _ wordsfp8e4m3_S2816x4096_S256x4096_2560_0) (harg4.wordExact_slice rfl _ wordsfp8e4m3_S2816x4096_S256x4096_2560_0) ⟨Or.inl rfl, trivial⟩)
  pure ⟨⟩

/-- The first statements of the part that every step runs; `a0` is the step's number. -/
noncomputable def k0_head (a0 : BitVec 32) (i : grid0.Coords) (arg1 : Memref sig .tc .hbm S2816x4096 .bf16) (harg1 : arg1.IsWhole) (arg2 : Memref sig .tc .vmem S512x4096 .bf16) (harg2 : arg2.IsWhole) (arg3 : Memref sig .tc .vmem S512x2816 .bf16) (harg3 : arg3.IsWhole) (arg4 : Memref sig .tc .hbm S2816x4096 .fp8e4m3) (harg4 : arg4.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (arg8 : Memref sig .tc .vmem S2816x4096 .bf16) (harg8 : arg8.IsWhole) (arg9 : Memref sig .tc .vmem S2816x4096 .fp8e4m3) (harg9 : arg9.IsWhole) (arg10 : Memref sig .tc .vmem S8x128 .f32) (harg10 : arg10.IsWhole) (arg11 : DmaSems sig S11) (arg12 : DmaSems sig S11) :
    Prog (TpuEff nD τ sig (Elt F) Λ₀ .tc) (Σ' (arg0 : BitVec 32) (v5 : IVec S128x128 1) (v7 : FVec F S64x4096 .bf16) (v9 : FVec F S64x128 .bf16) (v11 : FVec F S64x128 .bf16) (v13 : FVec F S64x128 .bf16) (v15 : FVec F S64x128 .bf16) (v17 : FVec F S64x128 .bf16) (v19 : FVec F S64x128 .bf16) (v21 : FVec F S64x128 .bf16) (v23 : FVec F S64x128 .bf16) (v25 : FVec F S64x128 .bf16) (v27 : FVec F S64x128 .bf16) (v29 : FVec F S64x128 .bf16) (v31 : FVec F S64x128 .bf16) (v33 : FVec F S64x128 .bf16) (v35 : FVec F S64x128 .bf16) (v37 : FVec F S64x128 .bf16) (v39 : FVec F S64x128 .bf16) (v41 : FVec F S64x128 .bf16) (v43 : FVec F S64x128 .bf16) (v45 : FVec F S64x128 .bf16) (v47 : FVec F S64x128 .bf16) (v49 : FVec F S64x128 .bf16) (v51 : FVec F S64x128 .bf16), FVec F S64x128 .bf16) := do
  let v6 : Vec F S64x4096 .bf16 ← Prog.lift (.load arg2 (Rect.unit (s := S512x4096) ![0, 0] S64x4096.size inb_S512x4096_S64x4096_0_0).toLoadRect (View.loadsAt_vmem h_S64x4096))
  pure ⟨a0, k0_pay331, k0_pay332 v6, k0_pay333 v6, k0_pay334 v6, k0_pay335 v6, k0_pay336 v6, k0_pay337 v6, k0_pay338 v6, k0_pay339 v6, k0_pay340 v6, k0_pay341 v6, k0_pay342 v6, k0_pay343 v6, k0_pay344 v6, k0_pay345 v6, k0_pay346 v6, k0_pay347 v6, k0_pay348 v6, k0_pay349 v6, k0_pay350 v6, k0_pay351 v6, k0_pay352 v6, k0_pay353 v6, k0_pay354 v6, k0_pay355 v6⟩

/-- The part that every step runs. -/
noncomputable def k0_core (a0 : BitVec 32) (i : grid0.Coords) (arg1 : Memref sig .tc .hbm S2816x4096 .bf16) (harg1 : arg1.IsWhole) (arg2 : Memref sig .tc .vmem S512x4096 .bf16) (harg2 : arg2.IsWhole) (arg3 : Memref sig .tc .vmem S512x2816 .bf16) (harg3 : arg3.IsWhole) (arg4 : Memref sig .tc .hbm S2816x4096 .fp8e4m3) (harg4 : arg4.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (arg8 : Memref sig .tc .vmem S2816x4096 .bf16) (harg8 : arg8.IsWhole) (arg9 : Memref sig .tc .vmem S2816x4096 .fp8e4m3) (harg9 : arg9.IsWhole) (arg10 : Memref sig .tc .vmem S8x128 .f32) (harg10 : arg10.IsWhole) (arg11 : DmaSems sig S11) (arg12 : DmaSems sig S11) :
    Prog (TpuEff nD τ sig (Elt F) Λ₀ .tc) (BitVec 32) := do
  let ⟨arg0, v5, v7, v9, v11, v13, v15, v17, v19, v21, v23, v25, v27, v29, v31, v33, v35, v37, v39, v41, v43, v45, v47, v49, v51, v53⟩ : Σ' (arg0 : BitVec 32) (v5 : IVec S128x128 1) (v7 : FVec F S64x4096 .bf16) (v9 : FVec F S64x128 .bf16) (v11 : FVec F S64x128 .bf16) (v13 : FVec F S64x128 .bf16) (v15 : FVec F S64x128 .bf16) (v17 : FVec F S64x128 .bf16) (v19 : FVec F S64x128 .bf16) (v21 : FVec F S64x128 .bf16) (v23 : FVec F S64x128 .bf16) (v25 : FVec F S64x128 .bf16) (v27 : FVec F S64x128 .bf16) (v29 : FVec F S64x128 .bf16) (v31 : FVec F S64x128 .bf16) (v33 : FVec F S64x128 .bf16) (v35 : FVec F S64x128 .bf16) (v37 : FVec F S64x128 .bf16) (v39 : FVec F S64x128 .bf16) (v41 : FVec F S64x128 .bf16) (v43 : FVec F S64x128 .bf16) (v45 : FVec F S64x128 .bf16) (v47 : FVec F S64x128 .bf16) (v49 : FVec F S64x128 .bf16) (v51 : FVec F S64x128 .bf16), FVec F S64x128 .bf16 ← k0_head a0 i arg1 harg1 arg2 harg2 arg3 harg3 arg4 harg4 arg5 harg5 arg6 harg6 arg7 harg7 arg8 harg8 arg9 harg9 arg10 harg10 arg11 arg12
  let ⟨v109, v110⟩ : Σ' (v109 : FVec F S64x128 .f32), IVec S64x128 32 ← k0_part23 i arg1 harg1 arg2 harg2 arg3 harg3 arg4 harg4 arg5 harg5 arg6 harg6 arg7 harg7 arg8 harg8 arg9 harg9 arg10 harg10 arg11 arg12 v7 v9 v11 v13 v15 v17 v19 v21 v23 v25 v27 v29 v31 v33 v35 v37 v39 v41 v43 v45 v47 v49 v51 v53
  let ⟨v152, v154, v156⟩ : Σ' (v152 : IVec S64x128 32) (v154 : IVec S64x128 32), IVec S64x128 32 ← k0_part24 i arg1 harg1 arg2 harg2 arg3 harg3 arg4 harg4 arg5 harg5 arg6 harg6 arg7 harg7 arg8 harg8 arg9 harg9 arg10 harg10 arg11 arg12 v109 v110
  let ⟨v178, v196, v198, v200⟩ : Σ' (v178 : FVec F S64x128 .f32) (v196 : FVec F S64x4096 .bf16) (v198 : FVec F S64x128 .bf16), FVec F S64x128 .bf16 ← k0_part25 i arg1 harg1 arg2 harg2 arg3 harg3 arg4 harg4 arg5 harg5 arg6 harg6 arg7 harg7 arg8 harg8 arg9 harg9 arg10 harg10 arg11 arg12 v7 v109 v152 v154 v156
  let ⟨v202, v204, v206, v208, v210, v212, v214, v216, v218, v220, v222, v224, v226, v228, v230, v232, v234, v236, v238, v240, v242, v244, v246, v248, v250, v252, v254, v256, v258, v260⟩ : Σ' (v202 : FVec F S64x128 .bf16) (v204 : FVec F S64x128 .bf16) (v206 : FVec F S64x128 .bf16) (v208 : FVec F S64x128 .bf16) (v210 : FVec F S64x128 .bf16) (v212 : FVec F S64x128 .bf16) (v214 : FVec F S64x128 .bf16) (v216 : FVec F S64x128 .bf16) (v218 : FVec F S64x128 .bf16) (v220 : FVec F S64x128 .bf16) (v222 : FVec F S64x128 .bf16) (v224 : FVec F S64x128 .bf16) (v226 : FVec F S64x128 .bf16) (v228 : FVec F S64x128 .bf16) (v230 : FVec F S64x128 .bf16) (v232 : FVec F S64x128 .bf16) (v234 : FVec F S64x128 .bf16) (v236 : FVec F S64x128 .bf16) (v238 : FVec F S64x128 .bf16) (v240 : FVec F S64x128 .bf16) (v242 : FVec F S64x128 .bf16) (v244 : FVec F S64x128 .bf16) (v246 : FVec F S64x128 .bf16) (v248 : FVec F S64x128 .bf16) (v250 : FVec F S64x128 .bf16) (v252 : FVec F S64x128 .bf16) (v254 : FVec F S64x128 .bf16) (v256 : FVec F S64x128 .bf16) (v258 : FVec F S64x128 .bf16), FVec F S64x128 .bf16 ← k0_part26 i arg1 harg1 arg2 harg2 arg3 harg3 arg4 harg4 arg5 harg5 arg6 harg6 arg7 harg7 arg8 harg8 arg9 harg9 arg10 harg10 arg11 arg12 v196
  let ⟨v298, v313⟩ : Σ' (v298 : FVec F S64x128 .f32), IVec S64x128 32 ← k0_part27 i arg1 harg1 arg2 harg2 arg3 harg3 arg4 harg4 arg5 harg5 arg6 harg6 arg7 harg7 arg8 harg8 arg9 harg9 arg10 harg10 arg11 arg12 v198 v200 v202 v204 v206 v208 v210 v212 v214 v216 v218 v220 v222 v224 v226 v228 v230 v232 v234 v236 v238 v240 v242 v244 v246 v248 v250 v252 v254 v256 v258 v260
  let ⟨v355, v357, v359⟩ : Σ' (v355 : IVec S64x128 32) (v357 : IVec S64x128 1), IVec S64x128 1 ← k0_part28 i arg1 harg1 arg2 harg2 arg3 harg3 arg4 harg4 arg5 harg5 arg6 harg6 arg7 harg7 arg8 harg8 arg9 harg9 arg10 harg10 arg11 arg12 v298 v313
  let ⟨v367, v385, v387, v389, v391, v393, v395, v397, v399, v401, v403, v405, v407⟩ : Σ' (v367 : FVec F S64x128 .f32) (v385 : FVec F S64x4096 .bf16) (v387 : FVec F S64x128 .bf16) (v389 : FVec F S64x128 .bf16) (v391 : FVec F S64x128 .bf16) (v393 : FVec F S64x128 .bf16) (v395 : FVec F S64x128 .bf16) (v397 : FVec F S64x128 .bf16) (v399 : FVec F S64x128 .bf16) (v401 : FVec F S64x128 .bf16) (v403 : FVec F S64x128 .bf16) (v405 : FVec F S64x128 .bf16), FVec F S64x128 .bf16 ← k0_part29 i arg1 harg1 arg2 harg2 arg3 harg3 arg4 harg4 arg5 harg5 arg6 harg6 arg7 harg7 arg8 harg8 arg9 harg9 arg10 harg10 arg11 arg12 v196 v355 v357 v359
  let ⟨v454, v455, v456, v457, v458, v459, v460, v461, v462, v463, v464, v465, v466, v467⟩ : Σ' (v454 : FVec F S64x128 .bf16) (v455 : FVec F S64x128 .bf16) (v456 : FVec F S64x128 .bf16) (v457 : FVec F S64x128 .bf16) (v458 : FVec F S64x128 .bf16) (v459 : FVec F S64x128 .bf16) (v460 : FVec F S64x128 .bf16) (v461 : FVec F S64x128 .bf16) (v462 : FVec F S64x128 .bf16) (v463 : FVec F S64x128 .bf16) (v464 : FVec F S64x128 .bf16) (v465 : FVec F S64x128 .bf16) (v466 : FVec F S64x128 .bf16), FVec F S64x128 .bf16 ← k0_part30 i arg1 harg1 arg2 harg2 arg3 harg3 arg4 harg4 arg5 harg5 arg6 harg6 arg7 harg7 arg8 harg8 arg9 harg9 arg10 harg10 arg11 arg12 v385 v387 v389 v391 v393 v395 v397 v399 v401 v403 v405 v407
  let ⟨v487, v516⟩ : Σ' (v487 : FVec F S64x128 .f32), IVec S64x128 32 ← k0_part31 i arg1 harg1 arg2 harg2 arg3 harg3 arg4 harg4 arg5 harg5 arg6 harg6 arg7 harg7 arg8 harg8 arg9 harg9 arg10 harg10 arg11 arg12 v454 v455 v456 v457 v458 v459 v460 v461 v462 v463 v464 v465 v466 v467
  let ⟨v556, v561⟩ : Σ' (v556 : FVec F S64x128 .f32), FVec F S64x128 .f32 ← k0_part32 i arg1 harg1 arg2 harg2 arg3 harg3 arg4 harg4 arg5 harg5 arg6 harg6 arg7 harg7 arg8 harg8 arg9 harg9 arg10 harg10 arg11 arg12 v487 v516
  let ⟨v574, v576, v578, v580, v582, v584, v586, v588, v590, v592, v594, v596, v598, v600, v602, v604, v606, v608, v610, v612, v614⟩ : Σ' (v574 : FVec F S64x4096 .bf16) (v576 : FVec F S64x128 .bf16) (v578 : FVec F S64x128 .bf16) (v580 : FVec F S64x128 .bf16) (v582 : FVec F S64x128 .bf16) (v584 : FVec F S64x128 .bf16) (v586 : FVec F S64x128 .bf16) (v588 : FVec F S64x128 .bf16) (v590 : FVec F S64x128 .bf16) (v592 : FVec F S64x128 .bf16) (v594 : FVec F S64x128 .bf16) (v596 : FVec F S64x128 .bf16) (v598 : FVec F S64x128 .bf16) (v600 : FVec F S64x128 .bf16) (v602 : FVec F S64x128 .bf16) (v604 : FVec F S64x128 .bf16) (v606 : FVec F S64x128 .bf16) (v608 : FVec F S64x128 .bf16) (v610 : FVec F S64x128 .bf16) (v612 : FVec F S64x128 .bf16), FVec F S64x128 .bf16 ← k0_part33 i arg1 harg1 arg2 harg2 arg3 harg3 arg4 harg4 arg5 harg5 arg6 harg6 arg7 harg7 arg8 harg8 arg9 harg9 arg10 harg10 arg11 arg12 v385 v561
  let v673 : FVec F S64x1 .f32 ← k0_part34 i arg1 harg1 arg2 harg2 arg3 harg3 arg4 harg4 arg5 harg5 arg6 harg6 arg7 harg7 arg8 harg8 arg9 harg9 arg10 harg10 arg11 arg12 v574 v576 v578 v580 v582 v584 v586 v588 v590 v592 v594 v596 v598 v600 v602 v604 v606 v608 v610 v612 v614
  let ⟨v676, v719⟩ : Σ' (v676 : FVec F S64x128 .f32), IVec S64x128 32 ← k0_part35 i arg1 harg1 arg2 harg2 arg3 harg3 arg4 harg4 arg5 harg5 arg6 harg6 arg7 harg7 arg8 harg8 arg9 harg9 arg10 harg10 arg11 arg12 v673
  let v745 : FVec F S64x128 .f32 ← k0_part36 i arg1 harg1 arg2 harg2 arg3 harg3 arg4 harg4 arg5 harg5 arg6 harg6 arg7 harg7 arg8 harg8 arg9 harg9 arg10 harg10 arg11 arg12 v574 v676 v719
  let ⟨v763, v765, v767, v769, v771, v773, v775, v777, v779, v781, v783, v785, v787, v789, v791, v793, v795, v797, v799, v801, v803, v805, v807, v809, v811, v813, v815, v817, v819, v821⟩ : Σ' (v763 : FVec F S64x4096 .bf16) (v765 : FVec F S64x128 .bf16) (v767 : FVec F S64x128 .bf16) (v769 : FVec F S64x128 .bf16) (v771 : FVec F S64x128 .bf16) (v773 : FVec F S64x128 .bf16) (v775 : FVec F S64x128 .bf16) (v777 : FVec F S64x128 .bf16) (v779 : FVec F S64x128 .bf16) (v781 : FVec F S64x128 .bf16) (v783 : FVec F S64x128 .bf16) (v785 : FVec F S64x128 .bf16) (v787 : FVec F S64x128 .bf16) (v789 : FVec F S64x128 .bf16) (v791 : FVec F S64x128 .bf16) (v793 : FVec F S64x128 .bf16) (v795 : FVec F S64x128 .bf16) (v797 : FVec F S64x128 .bf16) (v799 : FVec F S64x128 .bf16) (v801 : FVec F S64x128 .bf16) (v803 : FVec F S64x128 .bf16) (v805 : FVec F S64x128 .bf16) (v807 : FVec F S64x128 .bf16) (v809 : FVec F S64x128 .bf16) (v811 : FVec F S64x128 .bf16) (v813 : FVec F S64x128 .bf16) (v815 : FVec F S64x128 .bf16) (v817 : FVec F S64x128 .bf16) (v819 : FVec F S64x128 .bf16), FVec F S64x128 .bf16 ← k0_part37 i arg1 harg1 arg2 harg2 arg3 harg3 arg4 harg4 arg5 harg5 arg6 harg6 arg7 harg7 arg8 harg8 arg9 harg9 arg10 harg10 arg11 arg12
  let ⟨v865, v873, v875⟩ : Σ' (v865 : FVec F S64x128 .f32) (v873 : IVec S64x128 32), IVec S64x128 32 ← k0_part38 i arg1 harg1 arg2 harg2 arg3 harg3 arg4 harg4 arg5 harg5 arg6 harg6 arg7 harg7 arg8 harg8 arg9 harg9 arg10 harg10 arg11 arg12 v763 v765 v767 v769 v771 v773 v775 v777 v779 v781 v783 v785 v787 v789 v791 v793 v795 v797 v799 v801 v803 v805 v807 v809 v811 v813 v815 v817 v819 v821
  let v922 : IVec S64x128 32 ← k0_part39 i arg1 harg1 arg2 harg2 arg3 harg3 arg4 harg4 arg5 harg5 arg6 harg6 arg7 harg7 arg8 harg8 arg9 harg9 arg10 harg10 arg11 arg12 v865 v873 v875
  let ⟨v934, v952, v954, v956, v958, v960, v962, v964, v966, v968⟩ : Σ' (v934 : FVec F S64x128 .f32) (v952 : FVec F S64x4096 .bf16) (v954 : FVec F S64x128 .bf16) (v956 : FVec F S64x128 .bf16) (v958 : FVec F S64x128 .bf16) (v960 : FVec F S64x128 .bf16) (v962 : FVec F S64x128 .bf16) (v964 : FVec F S64x128 .bf16) (v966 : FVec F S64x128 .bf16), FVec F S64x128 .bf16 ← k0_part40 i arg1 harg1 arg2 harg2 arg3 harg3 arg4 harg4 arg5 harg5 arg6 harg6 arg7 harg7 arg8 harg8 arg9 harg9 arg10 harg10 arg11 arg12 v763 v922
  let ⟨v1002, v1004, v1006, v1008, v1010, v1012, v1014, v1016, v1017, v1018, v1019, v1020, v1021, v1022, v1023, v1024, v1025, v1026, v1027, v1028⟩ : Σ' (v1002 : FVec F S64x128 .bf16) (v1004 : FVec F S64x128 .bf16) (v1006 : FVec F S64x128 .bf16) (v1008 : FVec F S64x128 .bf16) (v1010 : FVec F S64x128 .bf16) (v1012 : FVec F S64x128 .bf16) (v1014 : FVec F S64x128 .bf16) (v1016 : FVec F S64x128 .bf16) (v1017 : FVec F S64x128 .bf16) (v1018 : FVec F S64x128 .bf16) (v1019 : FVec F S64x128 .bf16) (v1020 : FVec F S64x128 .bf16) (v1021 : FVec F S64x128 .bf16) (v1022 : FVec F S64x128 .bf16) (v1023 : FVec F S64x128 .bf16) (v1024 : FVec F S64x128 .bf16) (v1025 : FVec F S64x128 .bf16) (v1026 : FVec F S64x128 .bf16) (v1027 : FVec F S64x128 .bf16), FVec F S64x128 .bf16 ← k0_part41 i arg1 harg1 arg2 harg2 arg3 harg3 arg4 harg4 arg5 harg5 arg6 harg6 arg7 harg7 arg8 harg8 arg9 harg9 arg10 harg10 arg11 arg12 v952 v954 v956 v958 v960 v962 v964 v966 v968
  let ⟨v1054, v1076, v1078⟩ : Σ' (v1054 : FVec F S64x128 .f32) (v1076 : IVec S64x128 32), IVec S64x128 32 ← k0_part42 i arg1 harg1 arg2 harg2 arg3 harg3 arg4 harg4 arg5 harg5 arg6 harg6 arg7 harg7 arg8 harg8 arg9 harg9 arg10 harg10 arg11 arg12 v1002 v1004 v1006 v1008 v1010 v1012 v1014 v1016 v1017 v1018 v1019 v1020 v1021 v1022 v1023 v1024 v1025 v1026 v1027 v1028
  let ⟨v1118, v1123, c253_i32_168⟩ : Σ' (v1118 : IVec S64x128 32) (v1123 : FVec F S64x128 .f32), BitVec 32 ← k0_part43 i arg1 harg1 arg2 harg2 arg3 harg3 arg4 harg4 arg5 harg5 arg6 harg6 arg7 harg7 arg8 harg8 arg9 harg9 arg10 harg10 arg11 arg12 v1054 v1076 v1078
  let ⟨v1141, v1143, v1145, v1147, v1149, v1151, v1153, v1155, v1157, v1159, v1161, v1163, v1165, v1167, v1169, v1171, v1173, v1175⟩ : Σ' (v1141 : FVec F S64x4096 .bf16) (v1143 : FVec F S64x128 .bf16) (v1145 : FVec F S64x128 .bf16) (v1147 : FVec F S64x128 .bf16) (v1149 : FVec F S64x128 .bf16) (v1151 : FVec F S64x128 .bf16) (v1153 : FVec F S64x128 .bf16) (v1155 : FVec F S64x128 .bf16) (v1157 : FVec F S64x128 .bf16) (v1159 : FVec F S64x128 .bf16) (v1161 : FVec F S64x128 .bf16) (v1163 : FVec F S64x128 .bf16) (v1165 : FVec F S64x128 .bf16) (v1167 : FVec F S64x128 .bf16) (v1169 : FVec F S64x128 .bf16) (v1171 : FVec F S64x128 .bf16) (v1173 : FVec F S64x128 .bf16), FVec F S64x128 .bf16 ← k0_part44 i arg1 harg1 arg2 harg2 arg3 harg3 arg4 harg4 arg5 harg5 arg6 harg6 arg7 harg7 arg8 harg8 arg9 harg9 arg10 harg10 arg11 arg12 v952 v1118 c253_i32_168
  let ⟨v1234, v1235⟩ : Σ' (v1234 : FVec F S64x128 .bf16), FVec F S64x128 .bf16 ← k0_part45 i arg1 harg1 arg2 harg2 arg3 harg3 arg4 harg4 arg5 harg5 arg6 harg6 arg7 harg7 arg8 harg8 arg9 harg9 arg10 harg10 arg11 arg12 v1141 v1143 v1145 v1147 v1149 v1151 v1153 v1155 v1157 v1159 v1161 v1163 v1165 v1167 v1169 v1171 v1173 v1175
  let ⟨v1243, v1279, v1281⟩ : Σ' (v1243 : FVec F S64x128 .f32) (v1279 : IVec S64x128 32), IVec S64x128 32 ← k0_part46 i arg1 harg1 arg2 harg2 arg3 harg3 arg4 harg4 arg5 harg5 arg6 harg6 arg7 harg7 arg8 harg8 arg9 harg9 arg10 harg10 arg11 arg12 v1234 v1235
  let ⟨v1312, v1327⟩ : Σ' (v1312 : FVec F S64x128 .f32), FVec F S64x4096 .fp8e5m2 ← k0_part47 i arg1 harg1 arg2 harg2 arg3 harg3 arg4 harg4 arg5 harg5 arg6 harg6 arg7 harg7 arg8 harg8 arg9 harg9 arg10 harg10 arg11 arg12 v1141 v1243 v1279 v1281
  let ⟨v1330, v1332, v1334, v1336, v1338, v1340, v1342, v1344, v1346, v1348, v1350, v1352, v1354, v1356, v1358, v1360, v1362, v1364, v1366, v1368, v1370, v1372, v1374, v1376, v1378, v1380, v1382⟩ : Σ' (v1330 : FVec F S64x4096 .bf16) (v1332 : FVec F S64x128 .bf16) (v1334 : FVec F S64x128 .bf16) (v1336 : FVec F S64x128 .bf16) (v1338 : FVec F S64x128 .bf16) (v1340 : FVec F S64x128 .bf16) (v1342 : FVec F S64x128 .bf16) (v1344 : FVec F S64x128 .bf16) (v1346 : FVec F S64x128 .bf16) (v1348 : FVec F S64x128 .bf16) (v1350 : FVec F S64x128 .bf16) (v1352 : FVec F S64x128 .bf16) (v1354 : FVec F S64x128 .bf16) (v1356 : FVec F S64x128 .bf16) (v1358 : FVec F S64x128 .bf16) (v1360 : FVec F S64x128 .bf16) (v1362 : FVec F S64x128 .bf16) (v1364 : FVec F S64x128 .bf16) (v1366 : FVec F S64x128 .bf16) (v1368 : FVec F S64x128 .bf16) (v1370 : FVec F S64x128 .bf16) (v1372 : FVec F S64x128 .bf16) (v1374 : FVec F S64x128 .bf16) (v1376 : FVec F S64x128 .bf16) (v1378 : FVec F S64x128 .bf16) (v1380 : FVec F S64x128 .bf16), FVec F S64x128 .bf16 ← k0_part48 i arg1 harg1 arg2 harg2 arg3 harg3 arg4 harg4 arg5 harg5 arg6 harg6 arg7 harg7 arg8 harg8 arg9 harg9 arg10 harg10 arg11 arg12 v1327
  let ⟨v1432, v1433, v1435, v1437⟩ : Σ' (v1432 : FVec F S64x128 .f32) (v1433 : IVec S64x128 32) (v1435 : IVec S64x128 32), IVec S64x128 32 ← k0_part49 i arg1 harg1 arg2 harg2 arg3 harg3 arg4 harg4 arg5 harg5 arg6 harg6 arg7 harg7 arg8 harg8 arg9 harg9 arg10 harg10 arg11 arg12 v1330 v1332 v1334 v1336 v1338 v1340 v1342 v1344 v1346 v1348 v1350 v1352 v1354 v1356 v1358 v1360 v1362 v1364 v1366 v1368 v1370 v1372 v1374 v1376 v1378 v1380 v1382
  let ⟨v1482, v1484⟩ : Σ' (v1482 : IVec S64x128 32), IVec S64x128 32 ← k0_part50 i arg1 harg1 arg2 harg2 arg3 harg3 arg4 harg4 arg5 harg5 arg6 harg6 arg7 harg7 arg8 harg8 arg9 harg9 arg10 harg10 arg11 arg12 v1432 v1433 v1435 v1437
  let ⟨v1518, v1526⟩ : Σ' (v1518 : FVec F S512x128 .f32), FVec F S1x1x128 .f32 ← k0_part51 i arg1 harg1 arg2 harg2 arg3 harg3 arg4 harg4 arg5 harg5 arg6 harg6 arg7 harg7 arg8 harg8 arg9 harg9 arg10 harg10 arg11 arg12 v5 v178 v367 v556 v745 v934 v1123 v1312 v1330 v1432 v1482 v1484
  let ⟨v1554, v1560⟩ : Σ' (v1554 : FVec F S512x256 .f32), FVec F S512x256 .bf16 ← k0_part52 i arg1 harg1 arg2 harg2 arg3 harg3 arg4 harg4 arg5 harg5 arg6 harg6 arg7 harg7 arg8 harg8 arg9 harg9 arg10 harg10 arg11 arg12 v5 v1518 v1526
  let v1588 : FVec F S512x256 .bf16 ← k0_part53 i arg1 harg1 arg2 harg2 arg3 harg3 arg4 harg4 arg5 harg5 arg6 harg6 arg7 harg7 arg8 harg8 arg9 harg9 arg10 harg10 arg11 arg12 v1554 v1560
  let v1616 : FVec F S512x256 .bf16 ← k0_part54 i arg1 harg1 arg2 harg2 arg3 harg3 arg4 harg4 arg5 harg5 arg6 harg6 arg7 harg7 arg8 harg8 arg9 harg9 arg10 harg10 arg11 arg12 v1554 v1588
  let v1617 : Vec F S512x256 .bf16 ← Prog.lift (.load arg3 (Rect.unit (s := S512x2816) ![0, 2048] S512x256.size inb_S512x2816_S512x256_0_2048).toLoadRect (View.loadsAt_vmem h_S512x256))
  Prog.lift (.store arg3 (Rect.unit (s := S512x2816) ![0, 2048] S512x256.size inb_S512x2816_S512x256_0_2048) v1616 Finset.univ (View.stores_vmem h_S512x256 (harg3.storeExact_slice rfl _ packedbf16_S512x2816_S512x256_0_2048) (fun _ => rfl)) (.inl rfl))
  let v1618 : Vec F S512x4096 .fp8e5m2 ← Prog.lift (.load arg6 (Rect.unit (s := S512x4096) ![0, 0] S512x4096.size inb_S512x4096_S512x4096_0_0).toLoadRect (View.loadsAt_vmem h_S512x4096))
  let v1620 : Vec F S256x4096 .fp8e4m3 ← Prog.lift (.load arg9 (Rect.unit (s := S2816x4096) ![2304, 0] S256x4096.size inb_S2816x4096_S256x4096_2304_0).toLoadRect (View.loadsAt_vmem h_S256x4096))
  let v1624 : Vec F S512x256 .bf16 ← Prog.lift (.load arg3 (Rect.unit (s := S512x2816) ![0, 2304] S512x256.size inb_S512x2816_S512x256_0_2304).toLoadRect (View.loadsAt_vmem h_S512x256))
  Prog.lift (.store arg3 (Rect.unit (s := S512x2816) ![0, 2304] S512x256.size inb_S512x2816_S512x256_0_2304) (k0_pay612 v1554 v1618 v1620) Finset.univ (View.stores_vmem h_S512x256 (harg3.storeExact_slice rfl _ packedbf16_S512x2816_S512x256_0_2304) (fun _ => rfl)) (.inl rfl))
  let v1625 : Vec F S512x4096 .fp8e5m2 ← Prog.lift (.load arg6 (Rect.unit (s := S512x4096) ![0, 0] S512x4096.size inb_S512x4096_S512x4096_0_0).toLoadRect (View.loadsAt_vmem h_S512x4096))
  let v1627 : Vec F S256x4096 .fp8e4m3 ← Prog.lift (.load arg9 (Rect.unit (s := S2816x4096) ![2560, 0] S256x4096.size inb_S2816x4096_S256x4096_2560_0).toLoadRect (View.loadsAt_vmem h_S256x4096))
  have cst_320 : FVec F S512x256 .f32 := constant S512x256 .f32 0x00000000#32

  let v1631 : Vec F S512x256 .bf16 ← Prog.lift (.load arg3 (Rect.unit (s := S512x2816) ![0, 2560] S512x256.size inb_S512x2816_S512x256_0_2560).toLoadRect (View.loadsAt_vmem h_S512x256))
  Prog.lift (.store arg3 (Rect.unit (s := S512x2816) ![0, 2560] S512x256.size inb_S512x2816_S512x256_0_2560) (k0_pay1 v1554 (k0_pay613 v1625) v1627 cst_320) Finset.univ (View.stores_vmem h_S512x256 (harg3.storeExact_slice rfl _ packedbf16_S512x2816_S512x256_0_2560) (fun _ => rfl)) (.inl rfl))
  pure arg0

/-- The last step's own part: the copies of the quantised weight are waited for. -/
noncomputable def k0_tail (i : grid0.Coords) (arg1 : Memref sig .tc .hbm S2816x4096 .bf16) (harg1 : arg1.IsWhole) (arg2 : Memref sig .tc .vmem S512x4096 .bf16) (harg2 : arg2.IsWhole) (arg3 : Memref sig .tc .vmem S512x2816 .bf16) (harg3 : arg3.IsWhole) (arg4 : Memref sig .tc .hbm S2816x4096 .fp8e4m3) (harg4 : arg4.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (arg8 : Memref sig .tc .vmem S2816x4096 .bf16) (harg8 : arg8.IsWhole) (arg9 : Memref sig .tc .vmem S2816x4096 .fp8e4m3) (harg9 : arg9.IsWhole) (arg10 : Memref sig .tc .vmem S8x128 .f32) (harg10 : arg10.IsWhole) (arg11 : DmaSems sig S11) (arg12 : DmaSems sig S11) :
    Prog (TpuEff nD τ sig (Elt F) Λ₀ .tc) PUnit := do
  k0_part21 i arg1 harg1 arg2 harg2 arg3 harg3 arg4 harg4 arg5 harg5 arg6 harg6 arg7 harg7 arg8 harg8 arg9 harg9 arg10 harg10 arg11 arg12
  let v1659 : DmaSems sig S1 := arg12.slice (Rect.unit (s := S11) ![6] S1.size inb_S11_S1_6)
  let v1660 : DmaSems sig S_ := v1659.squeeze S_ squeezes_S1_S_
  let v1661 : Memref sig .tc .hbm S256x4096 .fp8e4m3 := arg4.slice (Rect.unit (s := S2816x4096) ![1536, 0] S256x4096.size inb_S2816x4096_S256x4096_1536_0) (fun _ => rfl)
  let v1662 : Memref sig .tc .vmem S256x4096 .fp8e4m3 := arg9.slice (Rect.unit (s := S2816x4096) ![1536, 0] S256x4096.size inb_S2816x4096_S256x4096_1536_0) (fun _ => rfl)
  Prog.lift (.waitDma2 v1660.sem v1662 v1661 (harg9.wordExact_slice rfl _ wordsfp8e4m3_S2816x4096_S256x4096_1536_0) (harg4.wordExact_slice rfl _ wordsfp8e4m3_S2816x4096_S256x4096_1536_0))
  let v1663 : DmaSems sig S1 := arg12.slice (Rect.unit (s := S11) ![7] S1.size inb_S11_S1_7)
  let v1664 : DmaSems sig S_ := v1663.squeeze S_ squeezes_S1_S_
  let v1665 : Memref sig .tc .hbm S256x4096 .fp8e4m3 := arg4.slice (Rect.unit (s := S2816x4096) ![1792, 0] S256x4096.size inb_S2816x4096_S256x4096_1792_0) (fun _ => rfl)
  let v1666 : Memref sig .tc .vmem S256x4096 .fp8e4m3 := arg9.slice (Rect.unit (s := S2816x4096) ![1792, 0] S256x4096.size inb_S2816x4096_S256x4096_1792_0) (fun _ => rfl)
  Prog.lift (.waitDma2 v1664.sem v1666 v1665 (harg9.wordExact_slice rfl _ wordsfp8e4m3_S2816x4096_S256x4096_1792_0) (harg4.wordExact_slice rfl _ wordsfp8e4m3_S2816x4096_S256x4096_1792_0))
  let v1667 : DmaSems sig S1 := arg12.slice (Rect.unit (s := S11) ![8] S1.size inb_S11_S1_8)
  let v1668 : DmaSems sig S_ := v1667.squeeze S_ squeezes_S1_S_
  let v1669 : Memref sig .tc .hbm S256x4096 .fp8e4m3 := arg4.slice (Rect.unit (s := S2816x4096) ![2048, 0] S256x4096.size inb_S2816x4096_S256x4096_2048_0) (fun _ => rfl)
  let v1670 : Memref sig .tc .vmem S256x4096 .fp8e4m3 := arg9.slice (Rect.unit (s := S2816x4096) ![2048, 0] S256x4096.size inb_S2816x4096_S256x4096_2048_0) (fun _ => rfl)
  Prog.lift (.waitDma2 v1668.sem v1670 v1669 (harg9.wordExact_slice rfl _ wordsfp8e4m3_S2816x4096_S256x4096_2048_0) (harg4.wordExact_slice rfl _ wordsfp8e4m3_S2816x4096_S256x4096_2048_0))
  let v1671 : DmaSems sig S1 := arg12.slice (Rect.unit (s := S11) ![9] S1.size inb_S11_S1_9)
  let v1672 : DmaSems sig S_ := v1671.squeeze S_ squeezes_S1_S_
  let v1673 : Memref sig .tc .hbm S256x4096 .fp8e4m3 := arg4.slice (Rect.unit (s := S2816x4096) ![2304, 0] S256x4096.size inb_S2816x4096_S256x4096_2304_0) (fun _ => rfl)
  let v1674 : Memref sig .tc .vmem S256x4096 .fp8e4m3 := arg9.slice (Rect.unit (s := S2816x4096) ![2304, 0] S256x4096.size inb_S2816x4096_S256x4096_2304_0) (fun _ => rfl)
  Prog.lift (.waitDma2 v1672.sem v1674 v1673 (harg9.wordExact_slice rfl _ wordsfp8e4m3_S2816x4096_S256x4096_2304_0) (harg4.wordExact_slice rfl _ wordsfp8e4m3_S2816x4096_S256x4096_2304_0))
  let v1675 : DmaSems sig S1 := arg12.slice (Rect.unit (s := S11) ![10] S1.size inb_S11_S1_10)
  let v1676 : DmaSems sig S_ := v1675.squeeze S_ squeezes_S1_S_
  let v1677 : Memref sig .tc .hbm S256x4096 .fp8e4m3 := arg4.slice (Rect.unit (s := S2816x4096) ![2560, 0] S256x4096.size inb_S2816x4096_S256x4096_2560_0) (fun _ => rfl)
  let v1678 : Memref sig .tc .vmem S256x4096 .fp8e4m3 := arg9.slice (Rect.unit (s := S2816x4096) ![2560, 0] S256x4096.size inb_S2816x4096_S256x4096_2560_0) (fun _ => rfl)
  Prog.lift (.waitDma2 v1676.sem v1678 v1677 (harg9.wordExact_slice rfl _ wordsfp8e4m3_S2816x4096_S256x4096_2560_0) (harg4.wordExact_slice rfl _ wordsfp8e4m3_S2816x4096_S256x4096_2560_0))
  pure ⟨⟩

/-- What precedes the common part. -/
noncomputable def k0_pre (i : grid0.Coords) (arg1 : Memref sig .tc .hbm S2816x4096 .bf16) (harg1 : arg1.IsWhole) (arg2 : Memref sig .tc .vmem S512x4096 .bf16) (harg2 : arg2.IsWhole) (arg3 : Memref sig .tc .vmem S512x2816 .bf16) (harg3 : arg3.IsWhole) (arg4 : Memref sig .tc .hbm S2816x4096 .fp8e4m3) (harg4 : arg4.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (arg8 : Memref sig .tc .vmem S2816x4096 .bf16) (harg8 : arg8.IsWhole) (arg9 : Memref sig .tc .vmem S2816x4096 .fp8e4m3) (harg9 : arg9.IsWhole) (arg10 : Memref sig .tc .vmem S8x128 .f32) (harg10 : arg10.IsWhole) (arg11 : DmaSems sig S11) (arg12 : DmaSems sig S11) : Prog (TpuEff nD τ sig (Elt F) Λ₀ .tc) PUnit :=
  if h : k0_cond1 i = 1#1 then k0_init i arg1 harg1 arg2 harg2 arg3 harg3 arg4 harg4 arg5 harg5 arg6 harg6 arg7 harg7 arg8 harg8 arg9 harg9 arg10 harg10 arg11 arg12 h else pure ⟨⟩

theorem part22_eq (i : grid0.Coords) (arg1 : Memref sig .tc .hbm S2816x4096 .bf16) (harg1 : arg1.IsWhole) (arg2 : Memref sig .tc .vmem S512x4096 .bf16) (harg2 : arg2.IsWhole) (arg3 : Memref sig .tc .vmem S512x2816 .bf16) (harg3 : arg3.IsWhole) (arg4 : Memref sig .tc .hbm S2816x4096 .fp8e4m3) (harg4 : arg4.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (arg8 : Memref sig .tc .vmem S2816x4096 .bf16) (harg8 : arg8.IsWhole) (arg9 : Memref sig .tc .vmem S2816x4096 .fp8e4m3) (harg9 : arg9.IsWhole) (arg10 : Memref sig .tc .vmem S8x128 .f32) (harg10 : arg10.IsWhole) (arg11 : DmaSems sig S11) (arg12 : DmaSems sig S11) :
    k0_part22 (F := F) i arg1 harg1 arg2 harg2 arg3 harg3 arg4 harg4 arg5 harg5 arg6 harg6 arg7 harg7 arg8 harg8 arg9 harg9 arg10 harg10 arg11 arg12 = k0_pre i arg1 harg1 arg2 harg2 arg3 harg3 arg4 harg4 arg5 harg5 arg6 harg6 arg7 harg7 arg8 harg8 arg9 harg9 arg10 harg10 arg11 arg12 >>= fun _ => k0_head (BitVec.ofNat 32 (i 0).val) i arg1 harg1 arg2 harg2 arg3 harg3 arg4 harg4 arg5 harg5 arg6 harg6 arg7 harg7 arg8 harg8 arg9 harg9 arg10 harg10 arg11 arg12 := by
  rw [k0_part22_eq_skeleton]; unfold k0_part22_skel k0_pre
  by_cases h : k0_cond1 i = 1#1
  · simp only [dif_pos h]; unfold k0_init; simp only [Prog.bind_assoc]; rfl
  · simp only [dif_neg h]; rfl

/-- The body is the first step's part, the common part and the last step's part, one after the other. -/
theorem body_eq (i : grid0.Coords) (arg1 : Memref sig .tc .hbm S2816x4096 .bf16) (harg1 : arg1.IsWhole) (arg2 : Memref sig .tc .vmem S512x4096 .bf16) (harg2 : arg2.IsWhole) (arg3 : Memref sig .tc .vmem S512x2816 .bf16) (harg3 : arg3.IsWhole) (arg4 : Memref sig .tc .hbm S2816x4096 .fp8e4m3) (harg4 : arg4.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (arg8 : Memref sig .tc .vmem S2816x4096 .bf16) (harg8 : arg8.IsWhole) (arg9 : Memref sig .tc .vmem S2816x4096 .fp8e4m3) (harg9 : arg9.IsWhole) (arg10 : Memref sig .tc .vmem S8x128 .f32) (harg10 : arg10.IsWhole) (arg11 : DmaSems sig S11) (arg12 : DmaSems sig S11) :
    cc0__body (F := F) i arg1 harg1 arg2 harg2 arg3 harg3 arg4 harg4 arg5 harg5 arg6 harg6 arg7 harg7 arg8 harg8 arg9 harg9 arg10 harg10 arg11 arg12 = k0_pre i arg1 harg1 arg2 harg2 arg3 harg3 arg4 harg4 arg5 harg5 arg6 harg6 arg7 harg7 arg8 harg8 arg9 harg9 arg10 harg10 arg11 arg12 >>= fun _ => k0_core (BitVec.ofNat 32 (i 0).val) i arg1 harg1 arg2 harg2 arg3 harg3 arg4 harg4 arg5 harg5 arg6 harg6 arg7 harg7 arg8 harg8 arg9 harg9 arg10 harg10 arg11 arg12 >>= fun a0 =>
      if Scalar.cmpi .ne (Scalar.extui (Scalar.cmpi .eq a0 63#32) : BitVec 32) 0#32 = 1#1 then k0_tail i arg1 harg1 arg2 harg2 arg3 harg3 arg4 harg4 arg5 harg5 arg6 harg6 arg7 harg7 arg8 harg8 arg9 harg9 arg10 harg10 arg11 arg12 else pure ⟨⟩ := by
  rw [cc0__body_eq_skeleton]; unfold cc0__body_skel
  rw [k0_part55_eq_skeleton]; unfold k0_part55_skel
  rw [part22_eq]; unfold k0_core k0_tail
  simp only [Prog.bind_assoc]
  rfl

end Cert.KernelIdeal.Hand
-- ==== Proof.Step.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import proofs.«01_k».proof.Proof.State
public import proofs.«01_k».proof.Proof.Core

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (𝒱 : Variants) (bd : Option 𝒱.V) (i : grid0.Coords) (arg2 : Memref sig .tc .vmem S512x4096 .bf16) (harg2 : arg2.IsWhole) (arg3 : Memref sig .tc .vmem S512x2816 .bf16) (harg3 : arg3.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (f : Vec F S2816x4096 .bf16)

/-- The first step's own part. -/
theorem init_run (k0_h1 : k0_cond1 i = 1#1) (g5 : Buf (Elt F) (arg5.view.loc (c : Thread nD τ))) (g10 : Buf (Elt F) (A10.view.loc (c : Thread nD τ))) {Q : _ → sProp 𝕄} :
    iprop(S0 c f ∗ (∃ W, owes (c : Thread nD τ) 0 W) ∗ (arg5.view.loc (c : Thread nD τ) ↦{fullShare} g5) ∗ (A10.view.loc (c : Thread nD τ) ↦{fullShare} g10))
    ⊢ iprop((iprop(S1 c f ∗ (∃ W, owes (c : Thread nD τ) 0 W) ∗ (arg5.view.loc (c : Thread nD τ) ↦{fullShare} wsBuf arg5 c f g5) ∗ (A10.view.loc (c : Thread nD τ) ↦{fullShare} (ws10 f : Buf (Elt F) (A10.view.loc (c : Thread nD τ))))) -∗ Q ⟨⟩)
      -∗ wp frame (wpE (defs₀ (F := F)) 𝒱 (c : Thread nD τ) bd) Set.univ (k0_init (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4 k0_h1) Q) := by
  unfold k0_init
  iintro ⟨HS, HO, H5, H10⟩ Hk
  ihave HS := (S0_open c f) $$ HS
  icases HS with ⟨H, HB⟩
  rw [wp_bind]; iapply (part12_run c 𝒱 bd i arg2 harg2 arg3 harg3 arg5 harg5 arg6 harg6 arg7 harg7 f) $$ H
  iintro H
  rw [wp_bind]; iapply (part13_run c 𝒱 bd i arg2 harg2 arg3 harg3 arg5 harg5 arg6 harg6 arg7 harg7 f) $$ H
  iintro H
  ihave H := (BIBase.BiEntails.of_eq ((At_last (I0 c f) (I1 c f)).trans (At_zero (I1 c f) (I2 c f)).symm)).1 $$ H
  rw [wp_bind]; iapply (part14_run c 𝒱 bd i arg2 harg2 arg3 harg3 arg5 harg5 arg6 harg6 arg7 harg7 f k0_h1) $$ [H HO]
  · isplitl [H] <;> iassumption
  iintro H
  rw [wp_bind]; iapply (part15_run c 𝒱 bd i arg2 harg2 arg3 harg3 arg5 harg5 arg6 harg6 arg7 harg7 f k0_h1) $$ H
  iintro H
  rw [wp_bind]; iapply (part16_run c 𝒱 bd i arg2 harg2 arg3 harg3 arg5 harg5 arg6 harg6 arg7 harg7 f k0_h1) $$ H
  iintro ⟨H, HO⟩
  ihave H := (landed_open c f) $$ [H HB]
  · isplitl [H] <;> iassumption
  icases H with ⟨H1, Hs, H⟩
  rw [wp_bind, k0_part17_eq_skeleton]; unfold k0_part17_skel; dsimp only
  sl_step
  rw [wp_bind]; iapply (part18_run c 𝒱 bd i arg2 harg2 arg3 harg3 arg5 harg5 arg6 harg6 arg7 harg7 f k0_h1 g5 g10) $$ [H H5 H10]
  · isplitl [H]; · iexact H
    isplitl [H5] <;> iassumption
  iintro ⟨H, H5, H10⟩
  rw [wp_bind]; iapply (part19_run c 𝒱 bd i arg2 harg2 arg3 harg3 arg5 harg5 arg6 harg6 arg7 harg7 f k0_h1) $$ H
  iintro H
  rw [wp_bind]; iapply (part20_run c 𝒱 bd i arg2 harg2 arg3 harg3 arg5 harg5 arg6 harg6 arg7 harg7 f k0_h1) $$ H
  iintro H
  iapply (quantLoop (wPay f) f c8 k0_t20_loop (k0_t20_ok i k0_h1) (by decide) k0_off20 (by decide +kernel) (fun k => k0_off20_inb i k k0_h1) (fun k => View.loadsAt_vmem h_S32x4096) (fun k => View.loadsAt_vmem h_S32x4096) (fun k => View.stores_vmem h_S32x4096 ((Memref.isWhole_whole cc0_scratch1).storeExact_slice rfl _ (k0_off20_packedfp8e4m3 i k k0_h1)) (fun _ => rfl)) _ (fun _ _ => rfl)) $$ H
  iintro H
  iapply (issueOut f (WQ f) c8) $$ H
  iintro H
  iapply (quantLoop (wPay f) f c9 k0_t21_loop (k0_t21_ok i k0_h1) (by decide) k0_off21 (by decide +kernel) (fun k => k0_off21_inb i k k0_h1) (fun k => View.loadsAt_vmem h_S32x4096) (fun k => View.loadsAt_vmem h_S32x4096) (fun k => View.stores_vmem h_S32x4096 ((Memref.isWhole_whole cc0_scratch1).storeExact_slice rfl _ (k0_off21_packedfp8e4m3 i k k0_h1)) (fun _ => rfl)) _ (fun _ _ => rfl)) $$ H
  iintro H
  iapply (issueOut f (WQ f) c9) $$ H
  iintro H
  iapply (quantLoop (wPay f) f c10 k0_t22_loop (k0_t22_ok i k0_h1) (by decide) k0_off22 (by decide +kernel) (fun k => k0_off22_inb i k k0_h1) (fun k => View.loadsAt_vmem h_S32x4096) (fun k => View.loadsAt_vmem h_S32x4096) (fun k => View.stores_vmem h_S32x4096 ((Memref.isWhole_whole cc0_scratch1).storeExact_slice rfl _ (k0_off22_packedfp8e4m3 i k k0_h1)) (fun _ => rfl)) _ (fun _ _ => rfl)) $$ H
  iintro H
  iapply (issueOut f (WQ f) c10) $$ H
  iintro H
  sl_step
  iapply Hk
  ihave H := (quant_close c f) $$ [H1 Hs H]
  · isplitl [H1]; · iexact H1
    isplitl [Hs] <;> iassumption
  isplitl [H]; · iexact H
  isplitl [HO]; · iexact HO
  isplitl [H5] <;> iassumption

/-- The last step's own part. -/
theorem tail_run {Q : _ → sProp 𝕄} :
    iprop(S1 c f ∗ (∃ W, owes (c : Thread nD τ) 0 W))
    ⊢ iprop((iprop(S2 c f ∗ (∃ W, owes (c : Thread nD τ) 0 W)) -∗ Q ⟨⟩)
      -∗ wp frame (wpE (defs₀ (F := F)) 𝒱 (c : Thread nD τ) bd) Set.univ (k0_tail (F := F) i A1 (Memref.isWhole_whole _) arg2 harg2 arg3 harg3 A4 (Memref.isWhole_whole _) arg5 harg5 arg6 harg6 arg7 harg7 A8 (Memref.isWhole_whole _) A9 (Memref.isWhole_whole _) A10 (Memref.isWhole_whole _) cc0_scratch3 cc0_scratch4) Q) := by
  unfold k0_tail S1
  iintro ⟨⟨H1, H8, H9, Hs, H⟩, HO⟩ Hk
  ihave H := (BIBase.BiEntails.of_eq (At_zero (O2 c (WQ f)) (O3 c (WQ f)))).2 $$ H
  rw [wp_bind, k0_part21_eq_skeleton]; unfold k0_part21_skel; dsimp only
  ihave H := (show iprop(At 0 (O2 c (WQ f)) (O3 c (WQ f)) ∗ ∃ W, owes (c : Thread nD τ) 0 W) ⊢ iprop(At 0 (O2 c (WQ f)) (O3 c (WQ f)) ∗ ∃ W, owes (c : Thread nD τ) 0 W) from .rfl) $$ [H HO]
  · isplitl [H] <;> iassumption
  iapply (waitOut (WQ f) c0) $$ H
  iintro H
  iapply (waitOut (WQ f) c1) $$ H
  iintro H
  iapply (waitOut (WQ f) c2) $$ H
  iintro H
  iapply (waitOut (WQ f) c3) $$ H
  iintro H
  iapply (waitOut (WQ f) c4) $$ H
  iintro H
  iapply (waitOut (WQ f) c5) $$ H
  iintro H
  sl_step
  iapply (waitOut (WQ f) c6) $$ H
  iintro H
  iapply (waitOut (WQ f) c7) $$ H
  iintro H
  iapply (waitOut (WQ f) c8) $$ H
  iintro H
  iapply (waitOut (WQ f) c9) $$ H
  iintro H
  iapply (waitOut (WQ f) c10) $$ H
  iintro H
  sl_step
  iapply Hk
  icases H with ⟨H, HO⟩
  isplitl [H1 H8 H9 Hs H]
  · iapply (out_close c f) $$ [H1 H8 H9 Hs H]
    isplitl [H1]; · iexact H1
    isplitl [H8]; · iexact H8
    isplitl [H9]; · iexact H9
    isplitl [Hs] <;> iassumption
  iexact HO

end Cert.KernelIdeal.Hand
-- ==== Proof.Main.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import proofs.«01_k».proof.Proof.Core

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

/-- Contents of the buffer a memref stands in, on core `c`. -/
abbrev Bf (c : Dev nD) {sp : Space} {S : Shape} {e : EltTy} (M : Memref sig .tc sp S e) : Type := Buf (Elt F) (M.view.loc (c : Thread nD τ))
/-- The buffer of `M` held whole at `f`, at share `q`. -/
abbrev ptq (c : Dev nD) {sp : Space} {S : Shape} {e : EltTy} (M : Memref sig .tc sp S e) (q : PosShare TreeShare) (f : Bf (F := F) c M) : sProp 𝕄 :=
  M.view.loc (c : Thread nD τ) ↦{q} f
abbrev pt (c : Dev nD) {sp : Space} {S : Shape} {e : EltTy} (M : Memref sig .tc sp S e) (f : Bf (F := F) c M) : sProp 𝕄 :=
  M.view.loc (c : Thread nD τ) ↦{fullShare} f

/-- The part that every step runs: what it leaves in the three result windows, with its run. -/
noncomputable def coreRun (c : Dev nD) (a0 : BitVec 32) (i : grid0.Coords)
    (arg1 : Memref sig .tc .hbm S2816x4096 .bf16) (harg1 : arg1.IsWhole) (arg2 : Memref sig .tc .vmem S512x4096 .bf16) (harg2 : arg2.IsWhole) (arg3 : Memref sig .tc .vmem S512x2816 .bf16) (harg3 : arg3.IsWhole) (arg4 : Memref sig .tc .hbm S2816x4096 .fp8e4m3) (harg4 : arg4.IsWhole) (arg5 : Memref sig .tc .vmem S1x1 .f32) (harg5 : arg5.IsWhole) (arg6 : Memref sig .tc .vmem S512x4096 .fp8e5m2) (harg6 : arg6.IsWhole) (arg7 : Memref sig .tc .vmem S1x4x128 .f32) (harg7 : arg7.IsWhole) (arg8 : Memref sig .tc .vmem S2816x4096 .bf16) (harg8 : arg8.IsWhole) (arg9 : Memref sig .tc .vmem S2816x4096 .fp8e4m3) (harg9 : arg9.IsWhole) (arg10 : Memref sig .tc .vmem S8x128 .f32) (harg10 : arg10.IsWhole) (arg11 : DmaSems sig S11) (arg12 : DmaSems sig S11)
    (q : PosShare TreeShare) (f2 : Bf (F := F) c arg2) (f9 : Bf (F := F) c arg9) (f10 : Bf (F := F) c arg10) :
    { W : Bf (F := F) c arg3 × Bf (F := F) c arg6 × Bf (F := F) c arg7 //
      ∀ (f3 : Bf (F := F) c arg3) (f6 : Bf (F := F) c arg6) (f7 : Bf (F := F) c arg7) (E : Set ℕ) (Q : BitVec 32 → sProp 𝕄),
        iprop(pt c arg2 f2 ∗ pt c arg3 f3 ∗ pt c arg6 f6 ∗ pt c arg7 f7 ∗ ptq c arg9 q f9 ∗ pt c arg10 f10)
        ⊢ iprop((iprop(pt c arg2 f2 ∗ pt c arg3 W.1 ∗ pt c arg6 W.2.1 ∗ pt c arg7 W.2.2 ∗ ptq c arg9 q f9 ∗ pt c arg10 f10) -∗ Q a0)
          -∗ wp frame (wpE (defs₀ (F := F)) Variants.none c none) E (k0_core (F := F) a0 i arg1 harg1 arg2 harg2 arg3 harg3 arg4 harg4 arg5 harg5 arg6 harg6 arg7 harg7 arg8 harg8 arg9 harg9 arg10 harg10 arg11 arg12) Q) } := by
  refine ⟨⟨?_, ?_, ?_⟩, fun f3 f6 f7 E Q => ?run⟩
  case run =>
    unfold k0_core k0_head
    iintro ⟨H2, H3, H6, H7, H9, H10⟩ Hk
    sl_exec_parts!
    sl_step
    iapply Hk
    isplitl [H2]; · iexact H2
    isplitl [H3]; · iexact H3
    isplitl [H6]; · iexact H6
    isplitl [H7]; · iexact H7
    isplitl [H9]; · iexact H9
    iexact H10

end Cert.KernelIdeal.Hand

end
-- ==== Proof.Run.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import proofs.«01_k».proof.Proof.Step
public import proofs.«01_k».proof.Proof.Main
public import proofs.«01_k».proof.Proof.Gen.KernelIdeal.Frame
public import Idealize.ShloMosaic.Lib.Pipeline.FrameSuffixV
public import Idealize.ShloMosaic.Lib.Pipeline.TableIdle

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Whole buffers by what they read -/

theorem owns_open (c : Dev nD) {sp : Space} {S : Shape} {e : EltTy} (M : Memref sig .tc sp S e) (hM : M.IsWhole) (q : PosShare TreeShare) (X : S.Idx → Elt F e) :
    iprop(owns (c : Thread nD τ) M q X) ⊢ (iprop(ptq c M q (hM.unread X)) : sProp 𝕄) := by
  unfold owns
  iintro ⟨%f, %hf, H⟩
  rw [hM.set_eq_univ, ← hM.eq_unread hf]
  iexact H

theorem owns_close (c : Dev nD) {sp : Space} {S : Shape} {e : EltTy} (M : Memref sig .tc sp S e) (hM : M.IsWhole) (q : PosShare TreeShare) (f : Bf (F := F) c M) :
    iprop(ptq c M q f) ⊢ (iprop(owns (c : Thread nD τ) M q (M.view.read (Elt F) f)) : sProp 𝕄) := by
  unfold owns
  iintro H
  iexists f
  isplitr
  · ipureintro; rfl
  rw [hM.set_eq_univ]
  iexact H

/-! ## The scalars that tell the first and the last step -/

theorem coords_val : ∀ t : Fin cfg0.N, ((grid0.coords t) 0).val = t.val := by decide
theorem cond1_iff (t : Fin cfg0.N) : k0_cond1 (grid0.coords t) = 1#1 ↔ t.val = 0 := by
  have h : ∀ n : Fin 64, (Scalar.cmpi .ne (Scalar.extui (Scalar.cmpi .eq (BitVec.ofNat 32 n.val) 0#32) : BitVec 32) 0#32 = 1#1) ↔ n.val = 0 := by decide
  have := h ⟨((grid0.coords t) 0).val, by rw [coords_val]; exact t.isLt⟩
  rw [← coords_val t]; exact this
theorem cond2_iff (t : Fin cfg0.N) : Scalar.cmpi .ne (Scalar.extui (Scalar.cmpi .eq (BitVec.ofNat 32 ((grid0.coords t) 0).val) 63#32) : BitVec 32) 0#32 = 1#1 ↔ t.val = 63 := by
  have h : ∀ n : Fin 64, (Scalar.cmpi .ne (Scalar.extui (Scalar.cmpi .eq (BitVec.ofNat 32 n.val) 63#32) : BitVec 32) 0#32 = 1#1) ↔ n.val = 63 := by decide
  rw [coords_val]; exact h t

/-! ## The kernel's own buffers and cells between the steps -/

/-- The weight as the region finds it. -/
abbrev wIn (c : Dev nD) : Vec F S2816x4096 .bf16 := V m c main_arg1

/-- Between the steps: before the first, the weight has not been touched; then its quantised form is in vector memory, half a
    share of it lent to the copies out; after the last, those have landed. -/
def Ph0 (c : Dev nD) : sProp 𝕄 := iprop(S0 c (wIn m c) ∗ ∃ g, A10.view.loc (c : Thread nD τ) ↦{fullShare} g)
def Ph1 (c : Dev nD) : sProp 𝕄 := iprop(S1 c (wIn m c) ∗ pt c A10 (ws10 (wIn m c)))
def Ph2 (c : Dev nD) : sProp 𝕄 := iprop(S2 c (wIn m c) ∗ pt c A10 (ws10 (wIn m c)))
def Ph (c : Dev nD) (n : ℕ) : sProp 𝕄 := if n = 0 then Ph0 m c else if n = 64 then Ph2 m c else Ph1 m c

abbrev osem0 : Fin 11 ⊕ Fin 11 → SemLoc sig := Sum.elim (fun r => SemLoc.dma (sem11 r)) (fun r => SemLoc.dma (sem12 r))
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(sems c sem11 ∗ sems c sem12) := by
  unfold Pipeline.ownSems0 sems
  rw [BI.bigSep_univ_sum]; rfl

def H0 : Finset (Ref sig .tc) := {main_arg1}
def R0 : Finset (Ref sig .tc) := {main_v1_1}
theorem H0_sub : H0 ⊆ Pipeline.restRefs sig spec0 := by decide
theorem R0_sub : R0 ⊆ Pipeline.restRefs sig spec0 \ H0 := by decide

/-- What the run leaves in the buffer of the quantised weight in HBM. -/
def G0 (c : Dev nD) (b : Ref sig .tc) : Buf (Elt F) ((c : Thread nD τ).loc b) :=
  if h : b = main_v1_1 then h ▸ (WQ (wIn m c) : Buf (Elt F) ((c : Thread nD τ).loc main_v1_1)) else V m c b
theorem G0_wq (c : Dev nD) : G0 m c main_v1_1 = WQ (wIn m c) := by unfold G0; rw [dif_pos rfl]

theorem enter (c : Dev nD) : Pipeline.ΦDRV osem0 spec0 H0 R0 (V m) (V m) c ⊢ (Ph0 m c : sProp 𝕄) := by
  unfold Pipeline.ΦDRV Ph0 S0
  rw [scopedRest0_eq, ownSems0_eq, show H0 = {main_arg1} from rfl, show R0 = {main_v1_1} from rfl, BI.bigSep_singleton, BI.bigSep_singleton]
  iintro ⟨⟨H8, H9, H10⟩, ⟨Hs, Ht⟩, H1, H4⟩
  isplitr [H10]
  · isplitl [H1]; · iexact H1
    isplitl [H8]; · iexact H8
    isplitl [H9]; · iexact H9
    isplitl [H4]; · iexists (V m c main_v1_1); iexact H4
    isplitl [Hs] <;> iassumption
  iexact H10

theorem leave (c : Dev nD) : (Ph2 m c : sProp 𝕄) ⊢ Pipeline.ΦDRV osem0 spec0 H0 R0 (V m) (G0 m) c := by
  unfold Pipeline.ΦDRV Ph2 S2
  rw [scopedRest0_eq, ownSems0_eq, show H0 = {main_arg1} from rfl, show R0 = {main_v1_1} from rfl, BI.bigSep_singleton, BI.bigSep_singleton, G0_wq]
  iintro ⟨⟨H1, H8, H9, H4, Hs, Ht⟩, H10⟩
  isplitl [H8 H9 H10]
  · isplitl [H8]; · iexists _; iexact H8
    isplitl [H9]; · iexists _; iexact H9
    iexists _; iexact H10
  isplitl [Hs Ht]
  · isplitl [Hs] <;> iassumption
  isplitl [H1]; · iexact H1
  iexact H4

/-! ## @main up to the region, at this proof's algebra -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## What a step leaves in the windows -/

abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)

/-- The common part's run at point `t`, on block `X` of the gradient and weight `w`. -/
abbrev runAt (c : Dev nD) (t : Fin cfg0.N) (X : Vec F S512x4096 .bf16) (w : Vec F S2816x4096 .bf16) :=
  coreRun (F := F) c (BitVec.ofNat 32 ((grid0.coords t) 0).val) (grid0.coords t) (Memref.whole main_arg1) (Memref.isWhole_whole _) (st0_0 t) (hs0 t) (st0_1 t) (hs1 t)
    (Memref.whole main_v1_1) (Memref.isWhole_whole _) (st0_2 t) (hs2 t) (st0_3 t) (hs3 t) (st0_4 t) (hs4 t)
    (Memref.whole cc0_scratch0) (Memref.isWhole_whole _) (Memref.whole cc0_scratch1) (Memref.isWhole_whole _) (Memref.whole cc0_scratch2) (Memref.isWhole_whole _)
    cc0_scratch3 cc0_scratch4 fullShare.left ((hs0 t).unread X) (WQ w) (ws10 w)

def dxAt (c : Dev nD) (t : Fin cfg0.N) : Vec F S512x2816 .bf16 := (st0_1 t).view.read (Elt F) (runAt c t (iblk m c 0 t) (wIn m c)).1.1
def dyqAt (c : Dev nD) (t : Fin cfg0.N) : Vec F S512x4096 .fp8e5m2 := (st0_3 t).view.read (Elt F) (runAt c t (iblk m c 0 t) (wIn m c)).1.2.1
def dysAt (c : Dev nD) (t : Fin cfg0.N) : Vec F S1x4x128 .f32 := (st0_4 t).view.read (Elt F) (runAt c t (iblk m c 0 t) (wIn m c)).1.2.2

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => dxAt m c t
    | ⟨2, _⟩ => wsV (wIn m c)
    | ⟨3, _⟩ => dyqAt m c t
    | ⟨4, _⟩ => dysAt m c t
  Φ t := Ph m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = dxAt m c t := by dsimp only [dats]
theorem after0_2 (c : Dev nD) (t : Fin cfg0.N) : (dats m 0 c).after 2 t = wsV (wIn m c) := by dsimp only [dats]
theorem after0_3 (c : Dev nD) (t : Fin cfg0.N) : (dats m 0 c).after 3 t = dyqAt m c t := by dsimp only [dats]
theorem after0_4 (c : Dev nD) (t : Fin cfg0.N) : (dats m 0 c).after 4 t = dysAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem idle2_iff (t : Fin cfg0.N) : cfg0.idle 2 (cfg0.grid.coords t) = !decide (t.val = 0) := by
  have h := cond1_iff t
  show (!(k0_cond1 (grid0.coords t) == 1#1)) = _
  congr 1
  rw [Bool.eq_iff_iff, beq_iff_eq, decide_eq_true_iff]; exact h
theorem flush2_iff (t : Fin cfg0.N) : (cfg0.win 2).flush t = decide (t.val = 63) := by
  have hN : t.val < 64 := t.isLt
  have h : (cfg0.win 2).flush t = true ↔ t.val % 64 = 63 := flush0_2 t
  rw [Bool.eq_iff_iff, h, decide_eq_true_iff]; omega
theorem fresh2 (n : ℕ) (h : n ≤ cfg0.N) : cfg0.fresh 2 n = decide (n = 0 ∨ n = 64) :=
  cfg0.fresh_tab 2 (fun n => decide (n = 0 ∨ n = 64)) (by simp) (fun t => by
    have hN : t.val < 64 := t.isLt
    rw [idle2_iff, flush2_iff, Bool.eq_iff_iff]
    simp only [decide_eq_true_iff, Bool.or_eq_true, Bool.and_eq_true, Bool.not_eq_true', decide_eq_false_iff_not]
    omega) n h

theorem before0_2 (c : Dev nD) (t : Fin cfg0.N) (ht : t.val ≠ 0) (d) : (dats m 0 c).before 2 t d = wsV (wIn m c) := by
  have hN : t.val < 64 := t.isLt
  rw [(dats m 0 c).before_out_traj 2 rfl (fun _ _ => rfl) (fun t _ _ _ => by rw [after0_2, after0_2]) t.val t rfl d, fresh2 t.val (le_of_lt t.isLt),
    if_neg (by simp only [decide_eq_true_iff]; omega), after0_2]

theorem wsBuf_read (c : Dev nD) (M : Memref sig .tc .vmem S1x1 .f32) (f : Vec F S2816x4096 .bf16) (g : Bf (F := F) c M) :
    M.view.read (Elt F) (wsBuf M c f g) = wsV f := by
  funext y
  have h := congrFun (View.read_write_univ (Val := Elt F) (v := M.access (Rect.unit (s := S1x1) ![0, 0] S1x1.size inb_S1x1_S1x1_0_0)) g (wsV f)) y
  have hy : (Rect.unit (s := S1x1) ![0, 0] S1x1.size inb_S1x1_S1x1_0_0).emb y = y := by
    funext a; apply Fin.ext
    match a with
    | ⟨0, h⟩ =>
      have h1 : ((Rect.unit (s := S1x1) ![0, 0] S1x1.size inb_S1x1_S1x1_0_0).emb y ⟨0, h⟩).val < 1 := Fin.isLt _
      have h2 : (y ⟨0, h⟩).val < 1 := Fin.isLt _
      omega
    | ⟨1, h⟩ =>
      have h1 : ((Rect.unit (s := S1x1) ![0, 0] S1x1.size inb_S1x1_S1x1_0_0).emb y ⟨1, h⟩).val < 1 := Fin.isLt _
      have h2 : (y ⟨1, h⟩).val < 1 := Fin.isLt _
      omega
  rw [← h]
  exact congrArg (M.view.read (Elt F) (wsBuf M c f g)) hy.symm

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- What precedes the common part leaves the quantised weight in vector memory, at the first point and at every other. -/
theorem pre_run (c : Dev nD) (t : Fin cfg0.N) {Q : PUnit → sProp 𝕄} :
    iprop(Ph m c t.val ∗ (∃ W, owes (c : Thread nD τ) 0 W) ∗ (∃ d, owns (c : Thread nD τ) (st0_2 t) fullShare ((dats m 0 c).before 2 t d)))
    ⊢ iprop((iprop(Ph1 m c ∗ (∃ W, owes (c : Thread nD τ) 0 W) ∗ owns (c : Thread nD τ) (st0_2 t) fullShare (wsV (wIn m c))) -∗ Q ⟨⟩)
      -∗ wp frame (wpE (defs₀ (F := F)) Variants.none (c : Thread nD τ) none) Set.univ (k0_pre (F := F) (grid0.coords t) (Memref.whole main_arg1) (Memref.isWhole_whole _) (st0_0 t) (hs0 t) (st0_1 t) (hs1 t) (Memref.whole main_v1_1) (Memref.isWhole_whole _) (st0_2 t) (hs2 t) (st0_3 t) (hs3 t) (st0_4 t) (hs4 t) (Memref.whole cc0_scratch0) (Memref.isWhole_whole _) (Memref.whole cc0_scratch1) (Memref.isWhole_whole _) (Memref.whole cc0_scratch2) (Memref.isWhole_whole _) cc0_scratch3 cc0_scratch4) Q) := by
  have hN : t.val < 64 := t.isLt
  by_cases ht : t.val = 0
  · have h1 := (cond1_iff t).mpr ht
    unfold k0_pre
    rw [dif_pos h1, show Ph m c t.val = Ph0 m c from by unfold Ph; rw [if_pos ht]]
    unfold Ph0 Ph1
    iintro ⟨⟨HS, ⟨%g, H10⟩⟩, HO, ⟨%d, H5⟩⟩ Hk
    ihave H5 := (owns_open c (st0_2 t) (hs2 t) fullShare _) $$ H5
    iapply (init_run c Variants.none none (grid0.coords t) (st0_0 t) (hs0 t) (st0_1 t) (hs1 t) (st0_2 t) (hs2 t) (st0_3 t) (hs3 t) (st0_4 t) (hs4 t) (wIn m c) h1 _ g) $$ [HS HO H5 H10]
    · isplitl [HS]; · iexact HS
      isplitl [HO]; · iexact HO
      isplitl [H5]; · iexact H5
      iexact H10
    iintro ⟨HS, HO, H5, H10⟩
    iapply Hk
    isplitl [HS H10]
    · isplitl [HS]; · iexact HS
      iexact H10
    isplitl [HO]; · iexact HO
    ihave H5 := (owns_close c (st0_2 t) (hs2 t) fullShare _) $$ H5
    rw [wsBuf_read]
    iexact H5
  · have h1 : ¬ k0_cond1 (grid0.coords t) = 1#1 := fun h => ht ((cond1_iff t).mp h)
    unfold k0_pre
    rw [dif_neg h1, show Ph m c t.val = Ph1 m c from by unfold Ph; rw [if_neg ht, if_neg (by omega)]]
    simp only [before0_2 m c t ht]
    iintro ⟨HS, HO, ⟨%d, H5⟩⟩ Hk
    sl_step
    iapply Hk
    isplitl [HS]; · iexact HS
    isplitl [HO]; · iexact HO
    iexact H5

theorem post_run (c : Dev nD) (t : Fin cfg0.N) {Q : PUnit → sProp 𝕄} :
    iprop(Ph1 m c ∗ ∃ W, owes (c : Thread nD τ) 0 W)
    ⊢ iprop((iprop(Ph m c (t.val + 1) ∗ ∃ W, owes (c : Thread nD τ) 0 W) -∗ Q ⟨⟩)
      -∗ wp frame (wpE (defs₀ (F := F)) Variants.none (c : Thread nD τ) none) Set.univ (if Scalar.cmpi .ne (Scalar.extui (Scalar.cmpi .eq (BitVec.ofNat 32 ((grid0.coords t) 0).val) 63#32) : BitVec 32) 0#32 = 1#1
        then k0_tail (F := F) (grid0.coords t) (Memref.whole main_arg1) (Memref.isWhole_whole _) (st0_0 t) (hs0 t) (st0_1 t) (hs1 t) (Memref.whole main_v1_1) (Memref.isWhole_whole _) (st0_2 t) (hs2 t) (st0_3 t) (hs3 t) (st0_4 t) (hs4 t) (Memref.whole cc0_scratch0) (Memref.isWhole_whole _) (Memref.whole cc0_scratch1) (Memref.isWhole_whole _) (Memref.whole cc0_scratch2) (Memref.isWhole_whole _) cc0_scratch3 cc0_scratch4 else pure ⟨⟩) Q) := by
  have hN : t.val < 64 := t.isLt
  by_cases ht : t.val = 63
  · rw [if_pos ((cond2_iff t).mpr ht), show Ph m c (t.val + 1) = Ph2 m c from by unfold Ph; rw [if_neg (by omega), if_pos (by omega)]]
    unfold Ph1 Ph2
    iintro ⟨⟨HS, H10⟩, HO⟩ Hk
    iapply (tail_run c Variants.none none (grid0.coords t) (st0_0 t) (hs0 t) (st0_1 t) (hs1 t) (st0_2 t) (hs2 t) (st0_3 t) (hs3 t) (st0_4 t) (hs4 t) (wIn m c)) $$ [HS HO]
    · isplitl [HS] <;> iassumption
    iintro ⟨HS, HO⟩
    iapply Hk
    isplitl [HS H10]
    · isplitl [HS] <;> iassumption
    iexact HO
  · rw [if_neg (fun h => ht ((cond2_iff t).mp h)), show Ph m c (t.val + 1) = Ph1 m c from by unfold Ph; rw [if_neg (by omega), if_neg (by omega)]]
    iintro H Hk
    sl_step
    iapply Hk
    iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq, show (dats m 0 c).Φ t.succ = Ph m c (t.val + 1) from rfl, after0_0, after0_1, after0_2, after0_3, after0_4]
  rw [show (dats m 0 c).Φ t.castSucc = Ph m c t.val from rfl]
  unfold Dat.owesAt Pipeline.owesWithin
  rw [show (dats m 0 c).owed t.castSucc = 0 from rfl, show (dats m 0 c).owed t.succ = 0 from rfl]
  simp only [before0_0]
  unfold dxAt dyqAt dysAt
  iintro ⟨HP, ⟨%W, -, HW⟩, ⟨%d0, H0⟩, ⟨%d1, H1⟩, H2, ⟨%d3, H3⟩, ⟨%d4, H4⟩⟩
  rw [wp_bind]
  iapply (pre_run m c t) $$ [HP HW H2]
  · isplitl [HP]; · iexact HP
    isplitl [HW]; · iexists W; iexact HW
    iexact H2
  iintro ⟨HP, HO, H2⟩
  ihave H0 := (owns_open c (st0_0 t) (hs0 t) fullShare _) $$ H0
  ihave H1 := (owns_open c (st0_1 t) (hs1 t) fullShare _) $$ H1
  ihave H3 := (owns_open c (st0_3 t) (hs3 t) fullShare _) $$ H3
  ihave H4 := (owns_open c (st0_4 t) (hs4 t) fullShare _) $$ H4
  unfold Ph1 S1
  icases HP with ⟨⟨G1, G8, G9, Gs, GO⟩, G10⟩
  rw [wp_bind]
  iapply ((runAt c t (iblk m c 0 t) (wIn m c)).2 _ _ _ Set.univ _) $$ [H0 H1 H3 H4 G9 G10]
  · isplitl [H0]; · iexact H0
    isplitl [H1]; · iexact H1
    isplitl [H3]; · iexact H3
    isplitl [H4]; · iexact H4
    isplitl [G9]; · iexact G9
    iexact G10
  iintro ⟨H0, H1, H3, H4, G9, G10⟩
  iapply (post_run m c t) $$ [G1 G8 G9 Gs GO G10 HO]
  · isplitr [HO]
    · unfold Ph1 S1
      isplitr [G10]
      · isplitl [G1]; · iexact G1
        isplitl [G8]; · iexact G8
        isplitl [G9]; · iexact G9
        isplitl [Gs] <;> iassumption
      iexact G10
    iexact HO
  iintro ⟨HP, ⟨%W', HW'⟩⟩
  isplitl [HP]; · iexact HP
  isplitl [HW']
  · iexists W'; isplitr; · ipureintro; exact fun _ _ => Or.inl trivial
    iexact HW'
  isplitl [H0]
  · ihave H0 := (owns_close c (st0_0 t) (hs0 t) fullShare _) $$ H0
    rw [(hs0 t).read_unread]
    iexact H0
  isplitl [H1]; · iapply (owns_close c (st0_1 t) (hs1 t) fullShare _) $$ H1
  isplitl [H2]; · iexact H2
  isplitl [H3]; · iapply (owns_close c (st0_3 t) (hs3 t) fullShare _) $$ H3
  iapply (owns_close c (st0_4 t) (hs4 t) fullShare _) $$ H4

theorem defs₀_row (t : Fin cfg0.N) :
    defs₀ (F := F) .tc cfg0.body (cfg0.bodyArgs t (cfg0.slots t)) = bodyAt0 t := by
  unfold defs₀; rw [Defs.onTc_tc]

theorem leaves2 (c : Dev nD) (t : Fin cfg0.N) :
    (owns (c : Thread nD τ) (st0_2 t) fullShare ((dats m 0 c).after 2 t) : sProp 𝕄) ⊢
      match cfg0.idle 2 (cfg0.grid.coords t) with
      | true =>
        match (cfg0.win 2).flush t with
        | false => iprop(∃ d, owns c.tc ((cfg0.win 2).stage (cfg0.slots t 2)) fullShare ((dats m 0 c).before 2 t d))
        | true => owns c.tc ((cfg0.win 2).stage (cfg0.slots t 2)) fullShare ((dats m 0 c).after 2 t)
      | false => owns c.tc ((cfg0.win 2).stage (cfg0.slots t 2)) fullShare ((dats m 0 c).after 2 t) := by
  rw [idle2_iff, flush2_iff]
  by_cases h0 : t.val = 0
  · simp only [h0, decide_true, Bool.not_true]; exact .rfl
  · by_cases h63 : t.val = 63
    · simp only [h63, decide_true]
      exact .rfl
    · simp only [h0, h63, decide_false, Bool.not_false]
      iintro H
      iexists (wsV (wIn m c))
      rw [before0_2 m c t h0, after0_2]
      iexact H

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono (leaves2 m c t) .rfl))))

/-! ## The run -/

/-- What the run leaves: each window's array, and every other buffer after the last host operations. -/
def Post (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b)
        = StableHlo.after [hostOps1].flatten (Pipeline.withArrays spec0 c (Pipeline.withR (V0 m c) R0 c (G0 m c)) fun w => (dats m 0 c).arrAt w cfg0.N) (Proc.devRef .tc b))
  ∧ r.2.sem = fun _ => 0

set_option backward.isDefEq.respectTransparency.types false in
theorem run_main : θ_run defs (onTc (τ := τ) (main (F := F))) (s₀ m ρ) (Post m) :=
  Pipeline.θ_run_frame_dmaR_aroundV (Q' := Post m) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G0 m)
    (hmain := hmain m Variants.none) (hA := A_eq m) (hin := enter m) (hout := leave m) (hQ' := fun _ h => h)
end Cert.KernelIdeal.Hand
-- ==== Proof.Frames.lean ====
module

public import proofs.«01_k».proof.Proof.Run
public import proofs.«01_k».proof.Proof.Gen.Kernel
public import Idealize.ShloMosaic.Lib.Tactic

/-! The frame claims of the two printed forms of the kernel: one run serves both, their texts being the same. -/

@[expose] public section

noncomputable section

open Idealize.ShloMosaic Idealize.ShloMosaic.TcCoe Idealize.SL.Sem

namespace Cert.KernelIdeal.Hand

open Cert.KernelIdeal.Gen

variable {F : FTy → Type} [FloatOps F]
variable (m : (ℓ : Loc nD τ sig) → Buf (Elt F) ℓ) (ρ : Dev nD → PrngReg)

/-- The buffers after the region, before the last host operations. -/
abbrev VX (c : Dev nD) : Valuation τ sig (Elt F) :=
  Pipeline.withArrays spec0 c (Pipeline.withR (V0 m c) R0 c (G0 m c)) fun w => (dats m 0 c).arrAt w cfg0.N

/-- A buffer that the last host operations do not write, that no window stages and that the body's copies do not fill. -/
theorem after_kept (c : Dev nD) (b : Ref sig .tc) (h1 : b ∉ ({main_v2, main_v3, main_v4} : Finset (Ref sig .tc)))
    (h2 : ∀ w, Pipeline.arrRef spec0 w ≠ b) (h3 : b ∉ R0) :
    StableHlo.after [hostOps1].flatten (VX m c) (Proc.devRef .tc b) = V m c b := by
  simp only [Finset.mem_insert, Finset.mem_singleton, not_or] at h1
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h1.1, StableHlo.devRef_ne_of_ne h1.2.1, StableHlo.devRef_ne_of_ne h1.2.2⟩)),
    show VX m c (Proc.devRef .tc b) = _ from Pipeline.withArrays_of_ne _ c _ _ b h2, Pipeline.withR_of_not_mem _ _ _ _ b h3]

/-- The frame of the idealised kernel, at any number format. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans
        ((after_kept m c main_arg0 (by decide) (by exact (by decide : ∀ w, Pipeline.arrRef spec0 w ≠ main_arg0)) (by decide)).trans (V_main_arg0 m c)),
      ((h.1 c).2 main_arg1 (Pipeline.mem_restRefs_of main_arg1 (by decide) (by decide))).trans
        ((after_kept m c main_arg1 (by decide) (by exact (by decide : ∀ w, Pipeline.arrRef spec0 w ≠ main_arg1)) (by decide)).trans (V_main_arg1 m c))⟩, h.2⟩)
    (run_main m ρ)

end Cert.KernelIdeal.Hand

namespace Cert.Kernel.Hand

variable {F : FTy → Type} [FloatOps F]

/-- The two printed bodies are one text. -/
theorem body_same (i a b c d e f g h j k l m n p q r s t u v w x) :
    Cert.Kernel.cc0__body (F := F) i a b c d e f g h j k l m n p q r s t u v w x
      = Cert.KernelIdeal.cc0__body (F := F) i a b c d e f g h j k l m n p q r s t u v w x := by
  sl_kernel_rfl

theorem defs₀_same : @Cert.Kernel.defs₀ F _ _ = @Cert.KernelIdeal.defs₀ F _ _ := by
  unfold Cert.Kernel.defs₀ Cert.KernelIdeal.defs₀
  congr 1
  funext l x
  match l, x with
  | 0, (t, s) => exact body_same ..

theorem defs_same : @Cert.Kernel.defs F _ _ = @Cert.KernelIdeal.defs F _ _ :=
  congrArg (fun d => Pipeline.defs (Cert.KernelIdeal.pcfgs (F := F)) d) defs₀_same

open Cert.Kernel in
/-- The frame of the kernel as printed. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]; exact Cert.KernelIdeal.Hand.frame m ρ

end Cert.Kernel.Hand
-- ==== Proof.Rows.lean ====
module

public import proofs.«01_k».proof.Proof.Run

@[expose] public section

set_option maxRecDepth 65536

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The quotients of the 64 rows `v`, one in each lane of a row. -/
def p64 (v : Vec F S64x4096 .bf16) : FVec F S64x128 .f32 := k0_pay356 (k0_pay332 v) (k0_pay333 v) (k0_pay334 v) (k0_pay335 v) (k0_pay336 v) (k0_pay337 v) (k0_pay338 v) (k0_pay339 v) (k0_pay340 v) (k0_pay341 v) (k0_pay342 v) (k0_pay343 v) (k0_pay344 v) (k0_pay345 v) (k0_pay346 v) (k0_pay347 v) (k0_pay348 v) (k0_pay349 v) (k0_pay350 v) (k0_pay351 v) (k0_pay352 v) (k0_pay353 v) (k0_pay354 v) (k0_pay355 v)
/-- The scales of the 64 rows `v`, one in each lane of a row. -/
def sc64 (v : Vec F S64x4096 .bf16) : FVec F S64x128 .f32 := k0_pay362 (p64 v) (k0_pay358 (p64 v) k0_pay357) (k0_pay359 (p64 v) k0_pay357) (k0_pay360 (p64 v) k0_pay357)
/-- The 64 rows `v` quantised. -/
def q64 (v : Vec F S64x4096 .bf16) : FVec F S64x4096 .fp8e5m2 := k0_pay363 (k0_pay332 v) (p64 v) (k0_pay358 (p64 v) k0_pay357) (k0_pay359 (p64 v) k0_pay357) (k0_pay360 (p64 v) k0_pay357)

variable (c : Dev nD) (arg2 : Memref sig .tc .vmem S512x4096 .bf16) (f2 : Bf (F := F) c arg2)

theorem q_0 : k0_pay363 (coreRun.sl.r c arg2 f2) (coreRun.sl.r_24 c arg2 f2) (coreRun.sl.r_25 c arg2 f2) (coreRun.sl.r_26 c arg2 f2) (coreRun.sl.r_27 c arg2 f2) = q64 (View.readAt (Elt F) arg2.view (Rect.unit (s := S512x4096) ![0, 0] S64x4096.size inb_S512x4096_S64x4096_0_0).toLoadRect f2) := by rfl
theorem q_64 : k0_pay404 (coreRun.sl.r_29 c arg2 f2) (coreRun.sl.r_64 c arg2 f2) (coreRun.sl.r_65 c arg2 f2) (coreRun.sl.r_66 c arg2 f2) = q64 (View.readAt (Elt F) arg2.view (Rect.unit (s := S512x4096) ![64, 0] S64x4096.size inb_S512x4096_S64x4096_64_0).toLoadRect f2) := by rfl
theorem q_128 : k0_pay436 (coreRun.sl.r_68 c arg2 f2) (coreRun.sl.r_97 c arg2 f2) = q64 (View.readAt (Elt F) arg2.view (Rect.unit (s := S512x4096) ![128, 0] S64x4096.size inb_S512x4096_S64x4096_128_0).toLoadRect f2) := by rfl
theorem q_192 : k0_pay463 (coreRun.sl.r_98 c arg2 f2) (coreRun.sl.r_120 c arg2 f2) (coreRun.sl.r_121 c arg2 f2) = q64 (View.readAt (Elt F) arg2.view (Rect.unit (s := S512x4096) ![192, 0] S64x4096.size inb_S512x4096_S64x4096_192_0).toLoadRect f2) := by rfl
theorem q_256 : k0_pay500 (coreRun.sl.r_123 c arg2 f2) (coreRun.sl.r_156 c arg2 f2) = q64 (View.readAt (Elt F) arg2.view (Rect.unit (s := S512x4096) ![256, 0] S64x4096.size inb_S512x4096_S64x4096_256_0).toLoadRect f2) := by rfl
theorem q_320 : k0_pay535 (coreRun.sl.r_158 c arg2 f2) (coreRun.sl.r_190 c arg2 f2) 253#32 = q64 (View.readAt (Elt F) arg2.view (Rect.unit (s := S512x4096) ![320, 0] S64x4096.size inb_S512x4096_S64x4096_320_0).toLoadRect f2) := by rfl
theorem q_384 : coreRun.sl.r_216 c arg2 f2 = q64 (View.readAt (Elt F) arg2.view (Rect.unit (s := S512x4096) ![384, 0] S64x4096.size inb_S512x4096_S64x4096_384_0).toLoadRect f2) := by rfl
theorem q_448 : k0_pay596 (coreRun.sl.r_217 c arg2 f2) (coreRun.sl.r_244 c arg2 f2) (coreRun.sl.r_245 c arg2 f2) (coreRun.sl.r_246 c arg2 f2) = q64 (View.readAt (Elt F) arg2.view (Rect.unit (s := S512x4096) ![448, 0] S64x4096.size inb_S512x4096_S64x4096_448_0).toLoadRect f2) := by rfl
theorem sc_0 : coreRun.sl.r_28 c arg2 f2 = sc64 (View.readAt (Elt F) arg2.view (Rect.unit (s := S512x4096) ![0, 0] S64x4096.size inb_S512x4096_S64x4096_0_0).toLoadRect f2) := by rfl
theorem sc_64 : coreRun.sl.r_67 c arg2 f2 = sc64 (View.readAt (Elt F) arg2.view (Rect.unit (s := S512x4096) ![64, 0] S64x4096.size inb_S512x4096_S64x4096_64_0).toLoadRect f2) := by rfl
theorem sc_128 : coreRun.sl.r_96 c arg2 f2 = sc64 (View.readAt (Elt F) arg2.view (Rect.unit (s := S512x4096) ![128, 0] S64x4096.size inb_S512x4096_S64x4096_128_0).toLoadRect f2) := by rfl
theorem sc_192 : coreRun.sl.r_122 c arg2 f2 = sc64 (View.readAt (Elt F) arg2.view (Rect.unit (s := S512x4096) ![192, 0] S64x4096.size inb_S512x4096_S64x4096_192_0).toLoadRect f2) := by rfl
theorem sc_256 : coreRun.sl.r_157 c arg2 f2 = sc64 (View.readAt (Elt F) arg2.view (Rect.unit (s := S512x4096) ![256, 0] S64x4096.size inb_S512x4096_S64x4096_256_0).toLoadRect f2) := by rfl
theorem sc_320 : coreRun.sl.r_191 c arg2 f2 = sc64 (View.readAt (Elt F) arg2.view (Rect.unit (s := S512x4096) ![320, 0] S64x4096.size inb_S512x4096_S64x4096_320_0).toLoadRect f2) := by rfl
theorem sc_384 : coreRun.sl.r_215 c arg2 f2 = sc64 (View.readAt (Elt F) arg2.view (Rect.unit (s := S512x4096) ![384, 0] S64x4096.size inb_S512x4096_S64x4096_384_0).toLoadRect f2) := by rfl

/-- The scales of the 512 rows of a tile, one in each lane of a row. -/
def cat8 (x0 x1 x2 x3 x4 x5 x6 x7 : FVec F S64x128 .f32) : FVec F S512x128 .f32 :=
  concatenate S512x128 0 [⟨S64x128, x0⟩, ⟨S64x128, x1⟩, ⟨S64x128, x2⟩, ⟨S64x128, x3⟩, ⟨S64x128, x4⟩, ⟨S64x128, x5⟩, ⟨S64x128, x6⟩, ⟨S64x128, x7⟩] concatenates_S64x128_S64x128_S64x128_S64x128_S64x128_S64x128_S64x128_S64x128_S512x128_d0
theorem cat_eq : coreRun.sl.r_247 c arg2 f2 = cat8 (sc64 (View.readAt (Elt F) arg2.view (Rect.unit (s := S512x4096) ![0, 0] S64x4096.size inb_S512x4096_S64x4096_0_0).toLoadRect f2)) (sc64 (View.readAt (Elt F) arg2.view (Rect.unit (s := S512x4096) ![64, 0] S64x4096.size inb_S512x4096_S64x4096_64_0).toLoadRect f2)) (sc64 (View.readAt (Elt F) arg2.view (Rect.unit (s := S512x4096) ![128, 0] S64x4096.size inb_S512x4096_S64x4096_128_0).toLoadRect f2)) (sc64 (View.readAt (Elt F) arg2.view (Rect.unit (s := S512x4096) ![192, 0] S64x4096.size inb_S512x4096_S64x4096_192_0).toLoadRect f2)) (sc64 (View.readAt (Elt F) arg2.view (Rect.unit (s := S512x4096) ![256, 0] S64x4096.size inb_S512x4096_S64x4096_256_0).toLoadRect f2)) (sc64 (View.readAt (Elt F) arg2.view (Rect.unit (s := S512x4096) ![320, 0] S64x4096.size inb_S512x4096_S64x4096_320_0).toLoadRect f2)) (sc64 (View.readAt (Elt F) arg2.view (Rect.unit (s := S512x4096) ![384, 0] S64x4096.size inb_S512x4096_S64x4096_384_0).toLoadRect f2)) (sc64 (View.readAt (Elt F) arg2.view (Rect.unit (s := S512x4096) ![448, 0] S64x4096.size inb_S512x4096_S64x4096_448_0).toLoadRect f2)) := by rfl

/-- The diagonal of the first 128 rows, as one row. -/
def diag0 (v : FVec F S512x128 .f32) : FVec F S1x1x128 .f32 :=
  shapeCast S1x1x128 (shapeCast S1x128 (multiReduction .add [0] S128 (select k0_pay331 (extractStridedSlice S128x128 ![0, 0] v slices_S512x128_o0_0_S128x128) (broadcast S128x128 (Scalar.ofBits .f32 0x00000000#32))) 0x00000000#32 reduces_S128x128_S128 (.inl rfl) rfl) shapeCasts_S128_S1x128) shapeCasts_S1x128_S1x1x128
theorem diag0_eq : coreRun.sl.r_248 c arg2 f2 = diag0 (coreRun.sl.r_247 c arg2 f2) := by rfl

end Cert.KernelIdeal.Hand

end
-- ==== Proof.Scale.lean ====
module

public import Idealize.ShloMosaic.PureOps.Ideal
public import Idealize.ShloMosaic.PureOps.Float

@[expose] public section

noncomputable section

namespace Cert.Scale

open Idealize.ShloMosaic

/-- The value of the word whose exponent field is `n`. -/
def word (n : BitVec 32) : EReal := Ideal.ofBits .f32 (IntOp.shli .vector n 23#32)

/-- One trial of the search for the exponent field of `p`. -/
def step (p : EReal) (n b : BitVec 32) : BitVec 32 := if Ideal.cmp .oge p (word (n + b)) = 1#1 then n + b else n

/-- The exponent field of `p`, bit by bit from the top. -/
def field (p : EReal) : BitVec 32 :=
  step p (step p (step p (step p (step p (step p (step p (step p 0#32 128#32) 64#32) 32#32) 16#32) 8#32) 4#32) 2#32) 1#32

/-- The field the kernel keeps: 126 where the field is zero or all ones. -/
def fieldK (n : BitVec 32) : BitVec 32 :=
  if (IntOp.cmpi .sgt n 0#32) &&& (IntOp.cmpi .slt n 255#32) = 1#1 then n else 126#32

/-- The kernel's scale at the quotient `p`. -/
def scaleK (p : EReal) : EReal := word (fieldK (field p) + 1#32)
/-- The kernel's inverse scale at the quotient `p`. -/
def invK (p : EReal) : EReal := word (253#32 - fieldK (field p))

/-- The reference's exponent at the quotient `p`. -/
def expR (p : EReal) : EReal :=
  if Ideal.cmp .olt p (Ideal.ofBits .f32 0x00800000#32) = 1#1 then Ideal.ofBits .f32 0x00000000#32
  else Ideal.liftRound Int.floor (Ideal.div (Ideal.log p) (Ideal.log (Ideal.ofBits .f32 0x40000000#32))) + Ideal.ofBits .f32 0x3F800000#32
/-- The reference's scale at the quotient `p`. -/
def scaleR (p : EReal) : EReal := Ideal.exp2 (expR p)
/-- The reference's inverse scale at the quotient `p`. -/
def invR (p : EReal) : EReal := Ideal.exp2 (Ideal.ofBits .f32 0x00000000#32 - expR p)

/-! ### What the words denote -/

theorem word_fields : ∀ n : Fin 256, ((IntOp.shli .vector (BitVec.ofNat 32 n.val) 23#32).extractLsb' 31 1 == 1#1) = false ∧
    ((IntOp.shli .vector (BitVec.ofNat 32 n.val) 23#32).extractLsb' 23 8).toNat = n.val ∧
    ((IntOp.shli .vector (BitVec.ofNat 32 n.val) 23#32).extractLsb' 0 23).toNat = 0 := by decide +kernel

theorem ofBits_f32 (b : BitVec 32) : Ideal.ofBits .f32 b = Ideal.ieee 8 23 b := rfl

theorem word_of (n : ℕ) (h1 : 1 ≤ n) (h2 : n ≤ 254) : word (BitVec.ofNat 32 n) = (((2:ℝ) ^ ((n : ℤ) - 127) : ℝ) : EReal) := by
  obtain ⟨ha, hb, hc⟩ := word_fields ⟨n, by omega⟩
  dsimp only at ha hb hc
  unfold word
  rw [ofBits_f32]
  unfold Ideal.ieee
  simp only [Nat.reduceAdd, ha, hb, hc]
  rw [if_neg (by omega), if_neg (by omega)]
  refine congrArg (fun r : ℝ => (r : EReal)) ?_
  norm_num
  rw [show (8388608:ℝ) = (2:ℝ) ^ (23:ℤ) by norm_num, ← zpow_add₀ (by norm_num)]
  refine congrArg (fun k : ℤ => (2:ℝ) ^ k) ?_
  omega

theorem word_top : word (BitVec.ofNat 32 255) = ⊤ := by
  obtain ⟨ha, hb, hc⟩ := word_fields ⟨255, by omega⟩
  dsimp only at ha hb hc
  unfold word
  rw [ofBits_f32]
  unfold Ideal.ieee
  simp only [Nat.reduceAdd, ha, hb, hc]
  norm_num

theorem ofBits_one : Ideal.ofBits .f32 0x3F800000#32 = ((1 : ℝ) : EReal) := by
  have := word_of 127 (by norm_num) (by norm_num)
  rw [show Ideal.ofBits .f32 0x3F800000#32 = word (BitVec.ofNat 32 127) from rfl, this]
  norm_num
theorem ofBits_two : Ideal.ofBits .f32 0x40000000#32 = ((2 : ℝ) : EReal) := by
  have := word_of 128 (by norm_num) (by norm_num)
  rw [show Ideal.ofBits .f32 0x40000000#32 = word (BitVec.ofNat 32 128) from rfl, this]
  norm_num
theorem ofBits_tiny : Ideal.ofBits .f32 0x00800000#32 = word (BitVec.ofNat 32 1) := rfl
theorem ofBits_zero : Ideal.ofBits .f32 0x00000000#32 = ((0 : ℝ) : EReal) := by
  rw [ofBits_f32]
  unfold Ideal.ieee
  norm_num

/-! ### The search finds the exponent field -/

/-- What is known of `p` while `b` more is to be tried: the field lies in `[n, n + 2 b)`. -/
def Inv (p : EReal) (n b : ℕ) : Prop :=
  n + b ≤ 256 ∧ (n = 0 ∨ word (BitVec.ofNat 32 n) ≤ p) ∧ (n + b = 256 ∨ p < word (BitVec.ofNat 32 (n + b)))

theorem step_inv (p : EReal) (n b : ℕ) (hb : 0 < b) (h : Inv p n (2 * b)) :
    ∃ n', step p (BitVec.ofNat 32 n) (BitVec.ofNat 32 b) = BitVec.ofNat 32 n' ∧ Inv p n' b := by
  obtain ⟨h1, h2, h3⟩ := h
  have hadd : BitVec.ofNat 32 n + BitVec.ofNat 32 b = BitVec.ofNat 32 (n + b) := (BitVec.ofNat_add ..).symm
  by_cases hc : word (BitVec.ofNat 32 (n + b)) ≤ p
  · refine ⟨n + b, ?_, by omega, Or.inr hc, ?_⟩
    · rw [step, hadd, if_pos]
      simp [Ideal.cmp, hc]
    · rw [show n + b + b = n + 2 * b by ring]; exact h3
  · refine ⟨n, ?_, by omega, h2, Or.inr (not_le.mp hc)⟩
    rw [step, hadd, if_neg]
    simp [Ideal.cmp, hc]

theorem field_inv (p : EReal) : ∃ n, field p = BitVec.ofNat 32 n ∧ Inv p n 1 := by
  have h0 : Inv p 0 (2 * 128) := ⟨by norm_num, Or.inl rfl, Or.inl rfl⟩
  obtain ⟨n1, e1, h1⟩ := step_inv p 0 128 (by norm_num) h0
  obtain ⟨n2, e2, h2⟩ := step_inv p n1 64 (by norm_num) h1
  obtain ⟨n3, e3, h3⟩ := step_inv p n2 32 (by norm_num) h2
  obtain ⟨n4, e4, h4⟩ := step_inv p n3 16 (by norm_num) h3
  obtain ⟨n5, e5, h5⟩ := step_inv p n4 8 (by norm_num) h4
  obtain ⟨n6, e6, h6⟩ := step_inv p n5 4 (by norm_num) h5
  obtain ⟨n7, e7, h7⟩ := step_inv p n6 2 (by norm_num) h6
  obtain ⟨n8, e8, h8⟩ := step_inv p n7 1 (by norm_num) h7
  refine ⟨n8, ?_, h8⟩
  unfold field
  rw [show (0#32) = BitVec.ofNat 32 0 from rfl, e1, e2, e3, e4, e5, e6, e7, e8]

theorem fieldK_of : ∀ n : Fin 255, fieldK (BitVec.ofNat 32 n.val) = if n.val = 0 then 126#32 else BitVec.ofNat 32 n.val := by decide +kernel
theorem sub_of : ∀ n : Fin 254, 253#32 - BitVec.ofNat 32 n.val = BitVec.ofNat 32 (253 - n.val) := by decide +kernel

/-- Where the quotient is below `2 ^ 126`, the kernel's scale and inverse are the reference's. -/
theorem scale_eq (p : EReal) (h0 : 0 ≤ p) (hp : p < word (BitVec.ofNat 32 253)) : scaleK p = scaleR p ∧ invK p = invR p := by
  obtain ⟨n, hn, hb, hlo, hhi⟩ := field_inv p
  have hpt : p ≠ ⊤ := fun h => by rw [h] at hp; exact absurd hp not_top_lt
  have hpb : p ≠ ⊥ := fun h => by rw [h] at h0; simp at h0
  obtain ⟨r, rfl⟩ : ∃ r : ℝ, p = (r : EReal) := ⟨p.toReal, (EReal.coe_toReal hpt hpb).symm⟩
  rw [word_of 253 (by norm_num) (by norm_num), EReal.coe_lt_coe_iff] at hp
  have hn254 : n ≤ 252 := by
    by_contra hc
    rcases hlo with h | h
    · omega
    by_cases h255 : n = 255
    · subst h255; rw [word_top] at h; exact absurd h (by simp)
    · rw [word_of n (by omega) (by omega), EReal.coe_le_coe_iff] at h
      have : (2:ℝ) ^ ((253:ℕ) - 127 : ℤ) ≤ (2:ℝ) ^ ((n:ℤ) - 127) := zpow_le_zpow_right₀ (by norm_num) (by push_cast; omega)
      linarith
  have hhi : r < (2:ℝ) ^ ((n:ℤ) - 126) := by
    rcases hhi with h | h
    · omega
    · rw [word_of (n+1) (by omega) (by omega), EReal.coe_lt_coe_iff] at h
      rwa [show (((n + 1 : ℕ) : ℤ) - 127) = (n:ℤ) - 126 by push_cast; ring] at h
  unfold scaleK invK scaleR invR
  rw [hn, fieldK_of ⟨n, by omega⟩]
  dsimp only
  by_cases hz : n = 0
  · subst hz
    have he : expR (r : EReal) = ((0:ℝ) : EReal) := by
      unfold expR
      rw [if_pos, ofBits_zero]
      rw [ofBits_tiny, word_of 1 (by norm_num) (by norm_num)]
      have : r < (2:ℝ) ^ (((1:ℕ):ℤ) - 127) := by convert hhi using 2; norm_num
      simp only [Ideal.cmp, EReal.coe_lt_coe_iff]
      simp only [this, decide_true]; rfl
    rw [if_pos rfl, he, ofBits_zero]
    rw [show (126#32 + 1#32) = BitVec.ofNat 32 127 from rfl, show (253#32 - 126#32) = BitVec.ofNat 32 127 from rfl, word_of 127 (by norm_num) (by norm_num)]
    rw [← EReal.coe_sub]
    have e2 : Ideal.exp2 ((0:ℝ) : EReal) = ((1:ℝ) : EReal) := by
      show ((Real.rpow 2 0 : ℝ) : EReal) = _
      congr 1
      exact Real.rpow_zero 2
    rw [sub_zero, e2]
    norm_num
  · have hlo : (2:ℝ) ^ ((n:ℤ) - 127) ≤ r := by
      rcases hlo with h | h
      · exact absurd h hz
      · rwa [word_of n (by omega) (by omega), EReal.coe_le_coe_iff] at h
    have hr : 0 < r := lt_of_lt_of_le (by positivity) hlo
    have hl2 : 0 < Real.log 2 := Real.log_pos (by norm_num)
    have he : expR (r : EReal) = ((((n:ℤ) - 126 : ℤ) : ℝ) : EReal) := by
      unfold expR
      rw [if_neg, ofBits_two, ofBits_one]
      · have e1 : Ideal.log (r : EReal) = ((Real.log r : ℝ) : EReal) := by
          show (if r ≤ 0 then ⊥ else _) = _
          rw [if_neg (not_le.mpr hr)]
        have e2 : Ideal.log ((2:ℝ) : EReal) = ((Real.log 2 : ℝ) : EReal) := by
          show (if (2:ℝ) ≤ 0 then ⊥ else _) = _
          rw [if_neg (by norm_num)]
        rw [e1, e2]
        have e3 : Ideal.div ((Real.log r : ℝ) : EReal) ((Real.log 2 : ℝ) : EReal) = ((Real.log r / Real.log 2 : ℝ) : EReal) := by
          unfold Ideal.div
          rw [if_neg (by exact_mod_cast hl2.ne'), ← EReal.coe_inv, ← EReal.coe_mul, div_eq_mul_inv]
        rw [e3]
        have e4 : ⌊Real.log r / Real.log 2⌋ = (n:ℤ) - 127 := by
          rw [Int.floor_eq_iff]
          constructor
          · rw [le_div_iff₀ hl2, ← Real.log_zpow]
            exact Real.log_le_log (by positivity) hlo
          · rw [div_lt_iff₀ hl2, show ((((n:ℤ) - 127 : ℤ) : ℝ) + 1) = (((n:ℤ) - 126 : ℤ) : ℝ) by push_cast; ring, ← Real.log_zpow]
            exact Real.log_lt_log hr hhi
        show ((⌊Real.log r / Real.log 2⌋ : ℝ) : EReal) + _ = _
        rw [e4, ← EReal.coe_add]
        congr 1
        push_cast; ring
      · rw [ofBits_tiny, word_of 1 (by norm_num) (by norm_num)]
        have : ¬ r < (2:ℝ) ^ (((1:ℕ):ℤ) - 127) := by
          rw [not_lt]
          refine le_trans (zpow_le_zpow_right₀ (by norm_num) ?_) hlo
          push_cast; omega
        simp only [Ideal.cmp, EReal.coe_lt_coe_iff]
        simp only [this, decide_false]; decide
    rw [if_neg hz, he, ofBits_zero, sub_of ⟨n, by omega⟩, show BitVec.ofNat 32 n + 1#32 = BitVec.ofNat 32 (n + 1) from (BitVec.ofNat_add ..).symm,
      word_of (n+1) (by omega) (by omega), word_of (253 - n) (by omega) (by omega), ← EReal.coe_sub]
    constructor
    · show _ = ((Real.rpow 2 _ : ℝ) : EReal)
      congr 1
      show _ = (2:ℝ) ^ ((((n:ℤ) - 126 : ℤ) : ℝ))
      rw [Real.rpow_intCast]
      congr 1
      push_cast; ring
    · show _ = ((Real.rpow 2 _ : ℝ) : EReal)
      congr 1
      show _ = (2:ℝ) ^ (0 - (((n:ℤ) - 126 : ℤ) : ℝ))
      rw [show (0 - (((n:ℤ) - 126 : ℤ) : ℝ)) = (((126 - (n:ℤ)) : ℤ) : ℝ) by push_cast; ring, Real.rpow_intCast]
      congr 1
      omega

end Cert.Scale

end
-- ==== Proof.Values.lean ====
module

public import proofs.«01_k».proof.Proof.Rows
public import proofs.«01_k».proof.Proof.Scale
public import proofs.«01_k».proof.Proof.Gen.ReferenceIdeal.Skeleton
public import Idealize.ShloMosaic.Lib.Pointwise

@[expose] public section

set_option maxRecDepth 16384

noncomputable section

namespace Cert.Values

open Cert.KernelIdeal Cert.KernelIdeal.Gen Cert.KernelIdeal.Hand
open Idealize.ShloMosaic
open Cert.Scale

/-- The absolute value. -/
def ab (x : EReal) : EReal := max x (-x)

theorem absf_ab {φ : FTy} (x : EReal) : FloatOps.absf (F := Ideal) (φ := φ) x = ab x := rfl

/-- The largest absolute value of a row. -/
def rowMax (x : Fin 4096 → EReal) : EReal := Finset.univ.fold max (Ideal.ofBits .f32 0xFF800000#32) fun k => ab (x k)
/-- The quotient of a row of `dy`. -/
def pY (x : Fin 4096 → EReal) : EReal := rowMax x * Ideal.ofBits .f32 0x37924925#32
/-- A row's element quantised by the inverse scale `s`, between `lo` and `hi`. -/
def clip (lo hi : BitVec 32) (x s : EReal) : EReal := min (Ideal.ofBits .f32 hi) (max (Ideal.ofBits .f32 lo) (x * s))

/-- What holds of the 32 tiles of 128 lanes holds of the whole row. -/
theorem tiles (P : Fin 4096 → Prop) (hP : ∀ l : Fin 128, ∀ t : Fin 32, P ⟨128 * t.val + l.val, by omega⟩) : ∀ k, P k := fun k => by
  have := hP ⟨k.val % 128, Nat.mod_lt _ (by norm_num)⟩ ⟨k.val / 128, by omega⟩
  convert this using 1
  apply Fin.ext
  show k.val = 128 * (k.val / 128) + k.val % 128
  omega

/-! ### A tile of 64 rows -/

theorem le_at {A : Fin 4096 → Prop} {a b : ℕ} {ha : a < 4096} {hb : b < 4096} (h : A ⟨a, ha⟩) (e : a = b) : A ⟨b, hb⟩ := by
  subst e; exact h

/-- Thirty-two tiles, folded by halves. -/
theorem nest (A : Fin 4096 → Prop) (l : Fin 128) :
    (((((A ⟨l.val, by omega⟩ ∧ A ⟨128 + l.val, by omega⟩) ∧ (A ⟨256 + l.val, by omega⟩ ∧ A ⟨384 + l.val, by omega⟩)) ∧ ((A ⟨512 + l.val, by omega⟩ ∧ A ⟨640 + l.val, by omega⟩) ∧ (A ⟨768 + l.val, by omega⟩ ∧ A ⟨896 + l.val, by omega⟩))) ∧ (((A ⟨1024 + l.val, by omega⟩ ∧ A ⟨1152 + l.val, by omega⟩) ∧ (A ⟨1280 + l.val, by omega⟩ ∧ A ⟨1408 + l.val, by omega⟩)) ∧ ((A ⟨1536 + l.val, by omega⟩ ∧ A ⟨1664 + l.val, by omega⟩) ∧ (A ⟨1792 + l.val, by omega⟩ ∧ A ⟨1920 + l.val, by omega⟩)))) ∧ ((((A ⟨2048 + l.val, by omega⟩ ∧ A ⟨2176 + l.val, by omega⟩) ∧ (A ⟨2304 + l.val, by omega⟩ ∧ A ⟨2432 + l.val, by omega⟩)) ∧ ((A ⟨2560 + l.val, by omega⟩ ∧ A ⟨2688 + l.val, by omega⟩) ∧ (A ⟨2816 + l.val, by omega⟩ ∧ A ⟨2944 + l.val, by omega⟩))) ∧ (((A ⟨3072 + l.val, by omega⟩ ∧ A ⟨3200 + l.val, by omega⟩) ∧ (A ⟨3328 + l.val, by omega⟩ ∧ A ⟨3456 + l.val, by omega⟩)) ∧ ((A ⟨3584 + l.val, by omega⟩ ∧ A ⟨3712 + l.val, by omega⟩) ∧ (A ⟨3840 + l.val, by omega⟩ ∧ A ⟨3968 + l.val, by omega⟩))))) ↔ ∀ t : Fin 32, A ⟨128 * t.val + l.val, by omega⟩ := by
  constructor
  · intro this t
    match t with
    | ⟨0, _⟩ => exact le_at this.1.1.1.1.1 (by simp)
    | ⟨1, _⟩ => exact le_at this.1.1.1.1.2 (by simp)
    | ⟨2, _⟩ => exact le_at this.1.1.1.2.1 (by simp)
    | ⟨3, _⟩ => exact le_at this.1.1.1.2.2 (by simp)
    | ⟨4, _⟩ => exact le_at this.1.1.2.1.1 (by simp)
    | ⟨5, _⟩ => exact le_at this.1.1.2.1.2 (by simp)
    | ⟨6, _⟩ => exact le_at this.1.1.2.2.1 (by simp)
    | ⟨7, _⟩ => exact le_at this.1.1.2.2.2 (by simp)
    | ⟨8, _⟩ => exact le_at this.1.2.1.1.1 (by simp)
    | ⟨9, _⟩ => exact le_at this.1.2.1.1.2 (by simp)
    | ⟨10, _⟩ => exact le_at this.1.2.1.2.1 (by simp)
    | ⟨11, _⟩ => exact le_at this.1.2.1.2.2 (by simp)
    | ⟨12, _⟩ => exact le_at this.1.2.2.1.1 (by simp)
    | ⟨13, _⟩ => exact le_at this.1.2.2.1.2 (by simp)
    | ⟨14, _⟩ => exact le_at this.1.2.2.2.1 (by simp)
    | ⟨15, _⟩ => exact le_at this.1.2.2.2.2 (by simp)
    | ⟨16, _⟩ => exact le_at this.2.1.1.1.1 (by simp)
    | ⟨17, _⟩ => exact le_at this.2.1.1.1.2 (by simp)
    | ⟨18, _⟩ => exact le_at this.2.1.1.2.1 (by simp)
    | ⟨19, _⟩ => exact le_at this.2.1.1.2.2 (by simp)
    | ⟨20, _⟩ => exact le_at this.2.1.2.1.1 (by simp)
    | ⟨21, _⟩ => exact le_at this.2.1.2.1.2 (by simp)
    | ⟨22, _⟩ => exact le_at this.2.1.2.2.1 (by simp)
    | ⟨23, _⟩ => exact le_at this.2.1.2.2.2 (by simp)
    | ⟨24, _⟩ => exact le_at this.2.2.1.1.1 (by simp)
    | ⟨25, _⟩ => exact le_at this.2.2.1.1.2 (by simp)
    | ⟨26, _⟩ => exact le_at this.2.2.1.2.1 (by simp)
    | ⟨27, _⟩ => exact le_at this.2.2.1.2.2 (by simp)
    | ⟨28, _⟩ => exact le_at this.2.2.2.1.1 (by simp)
    | ⟨29, _⟩ => exact le_at this.2.2.2.1.2 (by simp)
    | ⟨30, _⟩ => exact le_at this.2.2.2.2.1 (by simp)
    | ⟨31, _⟩ => exact le_at this.2.2.2.2.2 (by simp)
    | ⟨n + 32, h⟩ => exact absurd h (by omega)
  · intro h
    exact ⟨⟨⟨⟨⟨le_at (h 0) (by simp), le_at (h 1) (by simp)⟩, ⟨le_at (h 2) (by simp), le_at (h 3) (by simp)⟩⟩, ⟨⟨le_at (h 4) (by simp), le_at (h 5) (by simp)⟩, ⟨le_at (h 6) (by simp), le_at (h 7) (by simp)⟩⟩⟩, ⟨⟨⟨le_at (h 8) (by simp), le_at (h 9) (by simp)⟩, ⟨le_at (h 10) (by simp), le_at (h 11) (by simp)⟩⟩, ⟨⟨le_at (h 12) (by simp), le_at (h 13) (by simp)⟩, ⟨le_at (h 14) (by simp), le_at (h 15) (by simp)⟩⟩⟩⟩, ⟨⟨⟨⟨le_at (h 16) (by simp), le_at (h 17) (by simp)⟩, ⟨le_at (h 18) (by simp), le_at (h 19) (by simp)⟩⟩, ⟨⟨le_at (h 20) (by simp), le_at (h 21) (by simp)⟩, ⟨le_at (h 22) (by simp), le_at (h 23) (by simp)⟩⟩⟩, ⟨⟨⟨le_at (h 24) (by simp), le_at (h 25) (by simp)⟩, ⟨le_at (h 26) (by simp), le_at (h 27) (by simp)⟩⟩, ⟨⟨le_at (h 28) (by simp), le_at (h 29) (by simp)⟩, ⟨le_at (h 30) (by simp), le_at (h 31) (by simp)⟩⟩⟩⟩⟩

theorem p64_at (v : Vec Ideal S64x4096 .bf16) (i : Fin 64) (l : Fin 128) : p64 (F := Ideal) v (ix2 i l) = pY fun k => v (ix2 i k) := by
  unfold p64 pY
  unfold_payloads
  pointwise []
  refine congrArg (· * _) ?_
  refine eq_of_forall_ge_iff fun c => ?_
  unfold rowMax
  rw [Finset.fold_max_le, Finset.fold_max_le]
  refine and_congr Iff.rfl ?_
  simp only [Finset.mem_univ, true_imp_iff, max_le_iff, absf_ab]
  constructor
  · intro h
    exact tiles _ fun l t => (nest (fun k => ab (v (ix2 i k)) ≤ c) l).mp (h l) t
  · intro h l
    exact (nest (fun k => ab (v (ix2 i k)) ≤ c) l).mpr fun t => h _

/-! ### The exponent field, as vectors -/

section Vectors
variable {F : FTy → Type} [FloatOps F] {S : Shape}

/-- One trial of the search, at every element. -/
def stepV (p : FVec F S .f32) (b : BitVec 32) (n : IVec S 32) : IVec S 32 :=
  select (cmpf .oge p (bitcastToFloat .f32 (shli (addi n (broadcast S b)) (broadcast S 23#32)))) (addi n (broadcast S b)) n
/-- The search, at every element. -/
def fieldV (p : FVec F S .f32) : IVec S 32 :=
  stepV p 1#32 (stepV p 2#32 (stepV p 4#32 (stepV p 8#32 (stepV p 16#32 (stepV p 32#32 (stepV p 64#32 (stepV p 128#32 (broadcast S 0#32))))))))
/-- The field kept, at every element. -/
def keepV (n : IVec S 32) : IVec S 32 :=
  select (andi (cmpi .sgt n (broadcast S 0#32)) (cmpi .slt n (broadcast S 255#32))) n (broadcast S 126#32)
/-- The scale, at every element. -/
def scaleV (p : FVec F S .f32) : FVec F S .f32 := bitcastToFloat .f32 (shli (addi (keepV (fieldV p)) (broadcast S 1#32)) (broadcast S 23#32))
/-- The inverse scale, at every element. -/
def invV (p : FVec F S .f32) : FVec F S .f32 := bitcastToFloat .f32 (shli (subi (broadcast S 253#32) (keepV (fieldV p))) (broadcast S 23#32))

theorem sc64_eq (v : Vec F S64x4096 .bf16) : sc64 v = scaleV (p64 v) := by rfl
theorem wsV_eq (f : Vec F S2816x4096 .bf16) : wsV f = scaleV (wAmax f) := by rfl
theorem ws10_eq (f : Vec F S2816x4096 .bf16) : ws10 f = shapeCast S8x128 (broadcastTo S8x128 (shapeCast S1x1 (scaleV (wAmax f)) shapeCasts_S1x1_S1x1) broadcasts_S1x1_S8x128) shapeCasts_S8x128_S8x128 := by rfl
theorem wInv_eq (f : Vec F S2816x4096 .bf16) : wInv f = broadcastTo S32x4096 (shapeCast S1x1 (invV (wAmax f)) shapeCasts_S1x1_S1x1) broadcasts_S1x1_S32x4096 := by rfl

/-- A tile's rows multiplied by the inverse scales and clipped. -/
def quantV (x y : FVec F S64x4096 .bf16) : FVec F S64x4096 .fp8e5m2 :=
  truncf .fp8e5m2 (minimumf (broadcast S64x4096 (Scalar.truncf .bf16 bitsLt_bf16_f32 (Scalar.ofBits .f32 0x47600000#32)))
    (maximumf (broadcast S64x4096 (Scalar.truncf .bf16 bitsLt_bf16_f32 (Scalar.ofBits .f32 0xC7600000#32))) (mulf x y))) bitsLt_fp8e5m2_bf16
/-- Thirty-two copies of a tile of 128 lanes, side by side. -/
def spread (x : FVec F S64x128 .bf16) : FVec F S64x4096 .bf16 :=
  concatenate S64x4096 1 [⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩, ⟨S64x128, x⟩] concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x4096_d1

theorem q64_eq (v : Vec F S64x4096 .bf16) : q64 v = quantV (shapeCast S64x4096 v shapeCasts_S64x4096_S64x4096) (spread (truncf .bf16 (invV (p64 v)) bitsLt_bf16_f32)) := by rfl

end Vectors

theorem stepV_at {S : Shape} (p : FVec Ideal S .f32) (b : BitVec 32) (n : IVec S 32) (j : S.Idx) : stepV p b n j = step (p j) (n j) b := rfl
theorem fieldV_at {S : Shape} (p : FVec Ideal S .f32) (j : S.Idx) : fieldV p j = field (p j) := by
  unfold fieldV field
  simp only [stepV_at]
  rfl
theorem keepV_at {S : Shape} (n : IVec S 32) (j : S.Idx) : keepV n j = fieldK (n j) := rfl
theorem scaleV_at {S : Shape} (p : FVec Ideal S .f32) (j : S.Idx) : scaleV p j = scaleK (p j) := by
  unfold scaleK
  rw [← fieldV_at, ← keepV_at]
  rfl
theorem invV_at {S : Shape} (p : FVec Ideal S .f32) (j : S.Idx) : invV p j = invK (p j) := by
  unfold invK
  rw [← fieldV_at, ← keepV_at]
  rfl

theorem pick {α : Type} {x : S64x128.Idx → α} {p : (s : Shape) × (s.Idx → α)} (hp : p = ⟨S64x128, x⟩) (hr : p.1.rank = 2) (n : ℕ)
    (f : p.1.Idx) (h0 : ∀ b : Fin p.1.rank, b.cast hr = 0 → (f b).val = n) : ∃ y : S64x128.Idx, p.2 f = x y ∧ (y 0).val = n := by
  subst hp
  exact ⟨f, rfl, h0 0 rfl⟩

theorem concat_same {α : Type} (x : S64x128.Idx → α) (xs : List ((s : Shape) × (s.Idx → α))) (hx : ∀ p ∈ xs, p = ⟨S64x128, x⟩)
    (h : Shape.Concatenates (xs.map (·.1)) S64x4096 1) (j : S64x4096.Idx) :
    ∃ y : S64x128.Idx, concatenate S64x4096 1 xs h j = x y ∧ (y 0).val = (j 0).val := by
  unfold concatenate
  dsimp only
  refine pick (hx _ (List.getElem_mem _)) (by rw [hx _ (List.getElem_mem _)]) _ _ fun b hb => ?_
  have hne : ¬ (b.cast (by rw [hx _ (List.getElem_mem _)]) : Fin S64x4096.rank) = 1 := by
    intro h'; have := congrArg Fin.val h'; have h2 := congrArg Fin.val hb; simp at this h2; omega
  rw [dif_neg hne]
  have : (b.cast (by rw [hx _ (List.getElem_mem _)]) : Fin S64x4096.rank) = 0 := hb
  simp only [Fin.val_cast]
  rw [this]

theorem spread_at (x : FVec Ideal S64x128 .bf16) (i : Fin 64) (k : Fin 4096) : ∃ l : Fin 128, spread x (ix2 i k) = x (ix2 i l) := by
  obtain ⟨y, h1, h2⟩ := concat_same x (List.replicate 32 ⟨S64x128, x⟩) (fun p hp => (List.mem_replicate.mp hp).2)
    concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x4096_d1 (ix2 i k)
  refine ⟨y 1, h1.trans ?_⟩
  rw [eq_ix2 y]
  congr 2
  exact Fin.ext h2

theorem q64_at (v : Vec Ideal S64x4096 .bf16) (i : Fin 64) (k : Fin 4096) :
    q64 (F := Ideal) v (ix2 i k) = clip 0xC7600000#32 0x47600000#32 (v (ix2 i k)) (invK (pY fun k => v (ix2 i k))) := by
  obtain ⟨l, hl⟩ := spread_at (truncf .bf16 (invV (p64 (F := Ideal) v)) bitsLt_bf16_f32) i k
  have h2 : (truncf .bf16 (invV (p64 (F := Ideal) v)) bitsLt_bf16_f32 : FVec Ideal S64x128 .bf16) (ix2 i l) = invK (pY fun k => v (ix2 i k)) := by
    rw [← p64_at v i l]; exact invV_at _ _
  rw [q64_eq]
  unfold quantV clip
  pointwise []
  rw [hl, h2]

end Cert.Values

end
-- ==== Proof.Refs.lean ====
module

public import proofs.«01_k».proof.Proof.Values
public import proofs.«01_k».proof.Proof.Gen.ReferenceIdeal.Skeleton
public import Idealize.ShloMosaic.Lib.Pointwise

/-! What the reference stores, at an index. -/

@[expose] public section

set_option maxRecDepth 16384

noncomputable section

namespace Cert.Refs

open Cert.ReferenceIdeal Cert.ReferenceIdeal.Gen Idealize.ShloMosaic Cert.Scale Cert.Values

/-- The weight's largest absolute value over its format's largest value. -/
def pW (w : Fin 2816 → Fin 4096 → EReal) : EReal :=
  (Finset.univ.fold max (Ideal.ofBits .f32 0xFF800000#32) fun x : Fin 2816 × Fin 4096 => ab (w x.1 x.2)) * Ideal.ofBits .f32 0x3B124925#32

section Vectors
variable {F : FTy → Type} [FloatOps F]

/-- The reference's exponent, at every element. -/
def expV {S : Shape} (p : FVec F S .f32) : FVec F S .f32 :=
  select (cmpf .olt p (broadcast S (Scalar.ofBits .f32 0x00800000#32))) (broadcast S (Scalar.ofBits .f32 0x00000000#32))
    (addf (floor (divf (log p) (log (broadcast S (Scalar.ofBits .f32 0x40000000#32))))) (broadcast S (Scalar.ofBits .f32 0x3F800000#32)))

/-- The weight's product, as the reference computes it. -/
def pWV (w : Vec F S2816x4096 .bf16) : FVec F S1x1 .f32 :=
  mulf (broadcast S1x1 (extractAt ![0, 0, 0] (shapeCast S1x1x1 (multiReduction .maximumf [1, 2] S1
    (shapeCast S1x2816x4096 (absf (k0_pay5 w)) shapeCasts_S2816x4096_S1x2816x4096) 0xFF800000#32 reduces_S1x2816x4096_S1 (.inl rfl) rfl) shapeCasts_S1_S1x1x1)
      inpos_S1x1x1_p0_0_0)) (broadcast S1x1 (Scalar.ofBits .f32 0x3B124925#32))

theorem pay6_eq (w : Vec F S2816x4096 .bf16) : k0_pay6 w = expV (pWV w) := by rfl
theorem pay1_eq (v : Vec F S32768x4096 .bf16) : k0_pay1 (k0_pay11 v) (k0_pay12 v) (Scalar.ofBits .f32 0x40000000#32) = expV (k0_pay10 v) := by rfl

end Vectors

theorem expV_at {S : Shape} (p : FVec Ideal S .f32) (j : S.Idx) : expV p j = expR (p j) := rfl
theorem exp2_at {S : Shape} (p : FVec Ideal S .f32) (j : S.Idx) : exp2 p j = Ideal.exp2 (p j) := rfl
theorem absf_at {S : Shape} (p : FVec Ideal S .f32) (j : S.Idx) : absf p j = ab (p j) := rfl
theorem scaleR_of {x p : EReal} (h : x = expR p) : Ideal.exp2 x = scaleR p := by rw [h]; rfl

theorem pay5_at (w : Vec Ideal S2816x4096 .bf16) (j : S2816x4096.Idx) : (k0_pay5 (F := Ideal) w : FVec Ideal S2816x4096 .f32) j = w j := rfl
theorem pay9_at (v : Vec Ideal S32768x4096 .bf16) (j : S32768x4096.Idx) : (k0_pay9 (F := Ideal) v : FVec Ideal S32768x4096 .f32) j = v j := by
  unfold k0_pay9
  rw [shapeCast_id]
  rfl

theorem allMax_at (x : FVec Ideal S2816x4096 .f32) : mulf (F := Ideal) (φ := .f32) (broadcast S1x1 (extractAt ![0, 0, 0] (shapeCast S1x1x1
      (multiReduction .maximumf [1, 2] S1 (shapeCast S1x2816x4096 x shapeCasts_S2816x4096_S1x2816x4096) 0xFF800000#32 reduces_S1x2816x4096_S1 (.inl rfl) rfl)
      shapeCasts_S1_S1x1x1) inpos_S1x1x1_p0_0_0)) (broadcast S1x1 (Scalar.ofBits .f32 0x3B124925#32)) (ix2 0 0)
    = (Finset.univ.fold max (Ideal.ofBits .f32 0xFF800000#32) fun i : Fin 2816 × Fin 4096 => x (ix2 i.1 i.2)) * Ideal.ofBits .f32 0x3B124925#32 := by
  pointwise []

theorem rowMax_at (x : FVec Ideal S32768x4096 .f32) (i : Fin 32768) :
    multiReduction (F := Ideal) .maximumf [1] S32768 x 0xFF800000#32 reduces_S32768x4096_S32768 (.inl rfl) rfl (ix1 i)
      = Finset.univ.fold max (Ideal.ofBits .f32 0xFF800000#32) fun k => x (ix2 i k) := by
  pointwise []

theorem column_at (x : FVec Ideal S32768 .f32) (i : Fin 32768) :
    mulf (F := Ideal) (φ := .f32) (shapeCast S32768x1 x shapeCasts_S32768_S32768x1) (broadcast S32768x1 (Scalar.ofBits .f32 0x37924925#32)) (ix2 i 0)
      = x (ix1 i) * Ideal.ofBits .f32 0x37924925#32 := by
  pointwise []

theorem pWV_at (w : Vec Ideal S2816x4096 .bf16) : pWV (F := Ideal) w (ix2 0 0) = pW fun i k => w (ix2 i k) := by
  unfold pWV pW
  rw [allMax_at]
  simp only [absf_at, pay5_at]

theorem pay10_at (v : Vec Ideal S32768x4096 .bf16) (i : Fin 32768) : k0_pay10 (F := Ideal) v (ix2 i 0) = pY fun k => v (ix2 i k) := by
  unfold k0_pay10 pY rowMax
  rw [column_at, rowMax_at]
  simp only [absf_at, pay9_at]

/-- The weight's exponent. -/
theorem wExp_at (w : Vec Ideal S2816x4096 .bf16) : k0_pay6 (F := Ideal) w (ix2 0 0) = expR (pW fun i k => w (ix2 i k)) := by
  rw [pay6_eq, expV_at, pWV_at]

/-- A row's exponent. -/
theorem yExp_at (v : Vec Ideal S32768x4096 .bf16) (i : Fin 32768) :
    k0_pay1 (F := Ideal) (k0_pay11 v) (k0_pay12 v) (Scalar.ofBits .f32 0x40000000#32) (ix2 i 0) = expR (pY fun k => v (ix2 i k)) := by
  rw [pay1_eq, expV_at, pay10_at]

theorem ws_at (w : Vec Ideal S2816x4096 .bf16) : k0_pay8 (F := Ideal) w (ix2 0 0) = scaleR (pW fun i k => w (ix2 i k)) := by
  unfold k0_pay8
  rw [exp2_at]
  exact scaleR_of (wExp_at w)

theorem dys_at (v : Vec Ideal S32768x4096 .bf16) (i : Fin 32768) :
    k0_pay3 (F := Ideal) (k0_pay11 v) (k0_pay12 v) (Scalar.ofBits .f32 0x40000000#32) (ix2 i 0) = scaleR (pY fun k => v (ix2 i k)) := by
  unfold k0_pay3
  rw [exp2_at]
  exact scaleR_of (yExp_at v i)

theorem invR_of {x p : EReal} (h : x = expR p) : Ideal.exp2 (Ideal.ofBits .f32 0x00000000#32 - x) = invR p := by rw [h]; rfl

theorem clip_at {S : Shape} {φ : FTy} (lo hi : BitVec 32) (x b : FVec Ideal S .f32) (h : φ.bits < FTy.f32.bits) (j : S.Idx) :
    (truncf φ (minimumf (broadcast S (Scalar.ofBits .f32 hi)) (maximumf (broadcast S (Scalar.ofBits .f32 lo)) (mulf x b))) h : FVec Ideal S φ) j
      = clip lo hi (x j) (b j) := rfl
theorem exp2Neg_at {S : Shape} (e : FVec Ideal S .f32) (j : S.Idx) :
    exp2 (subf (broadcast S (Scalar.ofBits .f32 0x00000000#32)) e) j = Ideal.exp2 (Ideal.ofBits .f32 0x00000000#32 - e j) := rfl
theorem mulf_at {S : Shape} (a b : FVec Ideal S .f32) (j : S.Idx) : mulf a b j = a j * b j := rfl
theorem truncf_at {S : Shape} {φ : FTy} (a : FVec Ideal S .f32) (h : φ.bits < FTy.f32.bits) (j : S.Idx) : (truncf φ a h : FVec Ideal S φ) j = a j := rfl

theorem spreadW_at (x : FVec Ideal S1x1 .f32) (i : Fin 2816) (k : Fin 4096) : broadcastTo S2816x4096 x broadcasts_S1x1_S2816x4096 (ix2 i k) = x (ix2 0 0) := by
  pointwise []
theorem spreadY_at (x : FVec Ideal S32768x1 .f32) (i : Fin 32768) (k : Fin 4096) : broadcastTo S32768x4096 x broadcasts_S32768x1_S32768x4096 (ix2 i k) = x (ix2 i 0) := by
  pointwise []
theorem spreadX_at (x : FVec Ideal S32768x1 .f32) (i : Fin 32768) (k : Fin 2816) : broadcastTo S32768x2816 x broadcasts_S32768x1_S32768x2816 (ix2 i k) = x (ix2 i 0) := by
  pointwise []
theorem spreadC_at (x : FVec Ideal S1x1 .f32) (i : Fin 32768) : broadcastTo S32768x1 x broadcasts_S1x1_S32768x1 (ix2 i 0) = x (ix2 0 0) := by
  pointwise []
theorem dot_at (q : FVec Ideal S32768x4096 .fp8e5m2) (w : FVec Ideal S2816x4096 .fp8e4m3) (i : Fin 32768) (k : Fin 2816) :
    matmul (F := Ideal) dot_S32768x4096_S2816x4096_S32768x2816_1_1_0_0_n_n none q w (constant S32768x2816 .f32 0x00000000#32) (ix2 i k)
      = ∑ x : Fin 4096, q (ix2 i x) * w (ix2 k x) := by
  pointwise []

theorem wq_at (w : Vec Ideal S2816x4096 .bf16) (i : Fin 2816) (k : Fin 4096) :
    k0_pay7 (F := Ideal) w (ix2 i k) = clip 0xC3E00000#32 0x43E00000#32 (w (ix2 i k)) (invR (pW fun i k => w (ix2 i k))) := by
  rw [← invR_of (wExp_at w), ← pay5_at w (ix2 i k)]
  unfold k0_pay7
  rw [clip_at, spreadW_at, exp2Neg_at]

theorem dyq_at (v : Vec Ideal S32768x4096 .bf16) (i : Fin 32768) (k : Fin 4096) :
    k0_pay2 (F := Ideal) (k0_pay9 v) (k0_pay11 v) (k0_pay12 v) (Scalar.ofBits .f32 0x40000000#32) (ix2 i k)
      = clip 0xC7600000#32 0x47600000#32 (v (ix2 i k)) (invR (pY fun k => v (ix2 i k))) := by
  rw [← invR_of (yExp_at v i), ← pay9_at v (ix2 i k)]
  unfold k0_pay2
  rw [clip_at, spreadY_at, exp2Neg_at]

theorem dx_at (w : FVec Ideal S2816x4096 .fp8e4m3) (s : FVec Ideal S1x1 .f32) (v : Vec Ideal S32768x4096 .bf16) (i : Fin 32768) (k : Fin 2816) :
    k0_pay4 (F := Ideal) w s (k0_pay9 v) (k0_pay11 v) (k0_pay12 v) (Scalar.ofBits .f32 0x40000000#32) (ix2 i k)
      = (∑ x : Fin 4096, k0_pay2 (F := Ideal) (k0_pay9 v) (k0_pay11 v) (k0_pay12 v) (Scalar.ofBits .f32 0x40000000#32) (ix2 i x) * w (ix2 k x))
        * (k0_pay3 (F := Ideal) (k0_pay11 v) (k0_pay12 v) (Scalar.ofBits .f32 0x40000000#32) (ix2 i 0) * s (ix2 0 0)) := by
  unfold k0_pay4
  rw [truncf_at, mulf_at, dot_at, spreadX_at, mulf_at, spreadC_at]

end Cert.Refs

end
-- ==== Proof.Weight.lean ====
module

public import proofs.«01_k».proof.Proof.Values
public import proofs.«01_k».proof.Proof.Refs
public import proofs.«01_k».proof.Proof.Init
public import Idealize.ShloMosaic.Lib.Pointwise

/-! The weight's scale and quantised values, at an index. -/

@[expose] public section

set_option maxRecDepth 16384

noncomputable section

namespace Cert.Values

open Cert.KernelIdeal Cert.KernelIdeal.Gen Cert.KernelIdeal.Hand Idealize.ShloMosaic Cert.Scale Cert.Refs

theorem ab_nonneg (x : EReal) : 0 ≤ ab x := by
  unfold ab
  rcases le_total 0 x with h | h
  · exact le_max_of_le_left h
  · exact le_max_of_le_right (EReal.neg_nonneg.mpr h)

theorem amaxG_le (a : FVec Ideal S32x128 .bf16) (v : Vec Ideal S32x4096 .bf16) (i : Fin 32) (l : Fin 128) (c : EReal) :
    amaxG (F := Ideal) a v (ix2 i l) ≤ c ↔ a (ix2 i l) ≤ c ∧ ∀ t : Fin 32, ab (v (ix2 i ⟨128 * t.val + l.val, by omega⟩)) ≤ c := by
  unfold amaxG
  unfold_payloads
  pointwise []
  simp only [max_le_iff, absf_ab]
  exact and_congr Iff.rfl (nest (fun k => ab (v (ix2 i k)) ≤ c) l)

theorem accN_le (f : Vec Ideal S2816x4096 .bf16) (r : Fin 11) (a : FVec Ideal S32x128 .bf16) (i : Fin 32) (l : Fin 128) (c : EReal) :
    ∀ k (hk : k ≤ 8), accN (F := Ideal) amaxG f r a k (ix2 i l) ≤ c ↔ a (ix2 i l) ≤ c ∧ ∀ q : Fin 8, q.val < k → ∀ t : Fin 32,
      ab (f (ix2 ⟨256 * r.val + 32 * q.val + i.val, by omega⟩ ⟨128 * t.val + l.val, by omega⟩)) ≤ c
  | 0, _ => by
    rw [accN]
    exact ⟨fun h => ⟨h, fun q hq => absurd hq (by omega)⟩, fun h => h.1⟩
  | k + 1, hk => by
    rw [accN, dif_pos (by omega : k < 8), amaxG_le, accN_le f r a i l c k (by omega), and_assoc]
    refine and_congr Iff.rfl ⟨fun h q hq t => ?_, fun h => ⟨fun q hq t => h q (by omega) t, fun t => h ⟨k, by omega⟩ (by simp) t⟩⟩
    rcases Nat.lt_succ_iff_lt_or_eq.mp hq with hq | hq
    · exact h.1 q hq t
    · have := h.2 t
      have e : q = ⟨k, by omega⟩ := Fin.ext hq
      simp only [e]
      exact this

theorem accC_le (f : Vec Ideal S2816x4096 .bf16) (i : Fin 32) (l : Fin 128) (c : EReal) :
    ∀ n (hn : n ≤ 11), accC (F := Ideal) f n (ix2 i l) ≤ c ↔ 0 ≤ c ∧ ∀ r : Fin 11, r.val < n → ∀ q : Fin 8, ∀ t : Fin 32,
      ab (f (ix2 ⟨256 * r.val + 32 * q.val + i.val, by omega⟩ ⟨128 * t.val + l.val, by omega⟩)) ≤ c
  | 0, _ => by
    rw [accC]
    have e : (k0_pay288 (F := Ideal) : FVec Ideal S32x128 .bf16) (ix2 i l) = 0 := by
      unfold_payloads
      pointwise []
    rw [e]
    exact ⟨fun h => ⟨h, fun q hq => absurd hq (by omega)⟩, fun h => h.1⟩
  | n + 1, hn => by
    rw [← accC_succ f n (by omega), accN_le f ⟨n, by omega⟩ (accC f n) i l c 8 le_rfl, accC_le f i l c n (by omega), and_assoc]
    refine and_congr Iff.rfl ⟨fun h r hr q t => ?_, fun h => ⟨fun r hr q t => h r (by omega) q t, fun q _ t => h ⟨n, by omega⟩ (by simp) q t⟩⟩
    rcases Nat.lt_succ_iff_lt_or_eq.mp hr with hr | hr
    · exact h.1 r hr q t
    · have := h.2 q q.isLt t
      have e : r = ⟨n, by omega⟩ := Fin.ext hr
      simp only [e]
      exact this

theorem wAmax_at (f : Vec Ideal S2816x4096 .bf16) : wAmax (F := Ideal) f (ix2 0 0) = pW fun i k => f (ix2 i k) := by
  unfold wAmax pW
  unfold_payloads
  pointwise []
  refine congrArg (· * _) ?_
  refine eq_of_forall_ge_iff fun c => ?_
  rw [Finset.fold_max_le, Finset.fold_max_le]
  refine and_congr Iff.rfl ?_
  simp only [Finset.mem_univ, true_imp_iff, Prod.forall]
  constructor
  · intro h a b
    have := ((accC_le f ⟨a.val % 32, by omega⟩ ⟨b.val % 128, by omega⟩ c 11 le_rfl).mp (h _ _)).2 ⟨a.val / 256, by omega⟩ (by omega)
      ⟨a.val % 256 / 32, by omega⟩ ⟨b.val / 128, by omega⟩
    have e1 : (⟨256 * (a.val / 256) + 32 * (a.val % 256 / 32) + a.val % 32, by omega⟩ : Fin 2816) = a := Fin.ext (by simp; omega)
    have e2 : (⟨128 * (b.val / 128) + b.val % 128, by omega⟩ : Fin 4096) = b := Fin.ext (by simp; omega)
    simp only [e1, e2] at this
    exact this
  · intro h i l
    exact (accC_le f i l c 11 le_rfl).mpr ⟨(ab_nonneg _).trans (h 0 0), fun r _ q t => h _ _⟩

theorem wsV_at (f : Vec Ideal S2816x4096 .bf16) : wsV (F := Ideal) f (ix2 0 0) = scaleK (pW fun i k => f (ix2 i k)) := by
  rw [wsV_eq, ← wAmax_at]
  exact scaleV_at _ _

theorem ws10_at (f : Vec Ideal S2816x4096 .bf16) (i : Fin 8) (l : Fin 128) : ws10 (F := Ideal) f (ix2 i l) = scaleK (pW fun i k => f (ix2 i k)) := by
  rw [ws10_eq, ← wAmax_at, ← scaleV_at]
  generalize scaleV (wAmax (F := Ideal) f) = x
  pointwise []

theorem wInv_at (f : Vec Ideal S2816x4096 .bf16) (i : Fin 32) (k : Fin 4096) : wInv (F := Ideal) f (ix2 i k) = invK (pW fun i k => f (ix2 i k)) := by
  rw [wInv_eq, ← wAmax_at, ← invV_at]
  generalize invV (wAmax (F := Ideal) f) = x
  pointwise []

theorem WQ_at (f : Vec Ideal S2816x4096 .bf16) (i : Fin 2816) (k : Fin 4096) :
    WQ (F := Ideal) f (ix2 i k) = clip 0xC3E00000#32 0x43E00000#32 (f (ix2 i k)) (invK (pW fun i k => f (ix2 i k))) := by
  have e : WQ (F := Ideal) f (ix2 i k) = wPay f (rd f (32 * (i.val / 32)) (by omega)) (ix2 ⟨i.val % 32, by omega⟩ k) :=
    wqOf_at _ _ _ _ _ ⟨_, rfl⟩ _ (by show i.val = 32 * (i.val / 32) + i.val % 32; omega) rfl
  rw [e]
  have e2 : rd f (32 * (i.val / 32)) (by omega) (ix2 ⟨i.val % 32, by omega⟩ k) = f (ix2 i k) := by
    unfold rd
    congr 2
    exact Fin.ext (by show 32 * (i.val / 32) + i.val % 32 = i.val; omega)
  rw [← e2, ← wInv_at f ⟨i.val % 32, by omega⟩ k]
  unfold wPay clip
  generalize rd f _ _ = v
  generalize wInv f = x
  unfold_payloads
  pointwise []

end Cert.Values

end
-- ==== Proof.Bounds.lean ====
module

public import proofs.«01_k».proof.Proof.Refs
public import proofs.«01_k».proof.Proof.Gen.Pre_in_range
public import Idealize.ShloMosaic.Lib.Pointwise
public import Idealize.ShloMosaic.Lib.ReduceAll
public import proofs.«01_k».proof.Proof.Weight

/-! Arguments whose elements are at most the largest finite bf16 number have quotients that both ways to the scale serve. -/

@[expose] public section

set_option maxRecDepth 16384

noncomputable section

namespace Cert.Values

open Idealize.ShloMosaic Cert.Scale Cert.Refs

/-- The largest finite bf16 number. -/
def big : EReal := Ideal.ofBits .bf16 0x7F7F#16

/-- A normal positive pattern denotes its significand times its power of two. -/
theorem ieee_normal (e m : ℕ) {w : ℕ} (b : BitVec w) (ex fr : ℕ) (h1 : (b.extractLsb' (e + m) 1 == 1#1) = false)
    (h2 : (b.extractLsb' m e).toNat = ex) (h3 : (b.extractLsb' 0 m).toNat = fr) (h4 : ex ≠ 2 ^ e - 1) (h5 : ex ≠ 0) :
    Ideal.ieee e m b = (((2 ^ m + fr : ℕ) * (2 : ℝ) ^ ((ex : ℤ) - (2 ^ (e - 1) - 1) - m) : ℝ) : EReal) := by
  unfold Ideal.ieee
  simp only [h1, h2, h3]
  rw [if_neg h4, if_neg h5]
  norm_num

theorem big_eq : big = (((255 : ℝ) * 2 ^ 120 : ℝ) : EReal) := by
  refine (ieee_normal 8 7 0x7F7F#16 254 127 (by decide) (by decide) (by decide) (by decide) (by decide)).trans (congrArg (fun r : ℝ => (r : EReal)) ?_)
  norm_num
theorem inv448 : Ideal.ofBits .f32 0x3B124925#32 = (((9586981 : ℝ) / 2 ^ 32 : ℝ) : EReal) := by
  refine (ieee_normal 8 23 0x3B124925#32 118 1198373 (by decide) (by decide) (by decide) (by decide) (by decide)).trans (congrArg (fun r : ℝ => (r : EReal)) ?_)
  norm_num
theorem inv57344 : Ideal.ofBits .f32 0x37924925#32 = (((9586981 : ℝ) / 2 ^ 39 : ℝ) : EReal) := by
  refine (ieee_normal 8 23 0x37924925#32 111 1198373 (by decide) (by decide) (by decide) (by decide) (by decide)).trans (congrArg (fun r : ℝ => (r : EReal)) ?_)
  norm_num

theorem bottom : Ideal.ofBits .f32 0xFF800000#32 = ⊥ := by
  show Ideal.ieee 8 23 0xFF800000#32 = ⊥
  unfold Ideal.ieee
  simp only [show ((0xFF800000#32 : BitVec 32).extractLsb' (8 + 23) 1 == 1#1) = true from by decide, show ((0xFF800000#32 : BitVec 32).extractLsb' 23 8).toNat = 255 from by decide,
    show ((0xFF800000#32 : BitVec 32).extractLsb' 0 23).toNat = 0 from by decide]
  norm_num

/-- A quotient of a number that is at most the largest finite one. -/
theorem quotient (a : EReal) (C : ℝ) (h0 : 0 ≤ a) (h1 : a ≤ big) (hC0 : 0 ≤ C) (hC1 : C ≤ 1 / 2 ^ 8) :
    0 ≤ a * (C : EReal) ∧ a * (C : EReal) < word (BitVec.ofNat 32 253) := by
  rw [big_eq] at h1
  lift a to ℝ using ⟨ne_top_of_le_ne_top (EReal.coe_ne_top _) h1, ne_bot_of_le_ne_bot EReal.zero_ne_bot h0⟩
  rw [word_of 253 (by norm_num) (by norm_num), ← EReal.coe_mul]
  have h0' : (0 : ℝ) ≤ a := by exact_mod_cast h0
  have h1' : a ≤ 255 * 2 ^ 120 := by exact_mod_cast h1
  refine ⟨by exact_mod_cast mul_nonneg h0' hC0, EReal.coe_lt_coe_iff.mpr ?_⟩
  calc a * C ≤ (255 * 2 ^ 120) * (1 / 2 ^ 8) := mul_le_mul h1' hC1 hC0 (by norm_num)
    _ < _ := by norm_num

theorem fold_bounds {ι : Type} (s : Finset ι) (f : ι → EReal) (i : ι) (hi : i ∈ s) (h : ∀ j, ab (f j) ≤ big) :
    0 ≤ s.fold max (Ideal.ofBits .f32 0xFF800000#32) (fun j => ab (f j)) ∧ s.fold max (Ideal.ofBits .f32 0xFF800000#32) (fun j => ab (f j)) ≤ big := by
  rw [Finset.le_fold_max, Finset.fold_max_le, bottom]
  exact ⟨Or.inr ⟨i, hi, ab_nonneg _⟩, bot_le, fun j _ => h j⟩

/-- A row of such elements. -/
theorem pY_scale (x : Fin 4096 → EReal) (h : ∀ k, ab (x k) ≤ big) : scaleK (pY x) = scaleR (pY x) ∧ invK (pY x) = invR (pY x) := by
  obtain ⟨h0, h1⟩ := fold_bounds Finset.univ x 0 (Finset.mem_univ _) h
  unfold pY rowMax
  rw [inv57344]
  obtain ⟨a, b⟩ := quotient _ _ h0 h1 (by norm_num : (0:ℝ) ≤ 9586981 / 2 ^ 39) (by norm_num)
  exact scale_eq _ a b

/-- A weight of such elements. -/
theorem pW_scale (w : Fin 2816 → Fin 4096 → EReal) (h : ∀ i k, ab (w i k) ≤ big) : scaleK (pW w) = scaleR (pW w) ∧ invK (pW w) = invR (pW w) := by
  obtain ⟨h0, h1⟩ := fold_bounds Finset.univ (fun x : Fin 2816 × Fin 4096 => w x.1 x.2) (0, 0) (Finset.mem_univ _) fun x => h x.1 x.2
  unfold pW
  rw [inv448]
  obtain ⟨a, b⟩ := quotient _ _ h0 h1 (by norm_num : (0:ℝ) ≤ 9586981 / 2 ^ 32) (by norm_num)
  exact scale_eq _ a b

/-- What the precondition says of the two arguments. -/
theorem in_range (x : Vec Ideal Cert.Pre_in_range.S4x8192x4096 .bf16) (w : Vec Ideal Cert.Pre_in_range.S2816x4096 .bf16)
    (h : Cert.Pre_in_range.fn (F := Ideal) x w = fun _ => 1#1) : (∀ i, ab (x i) ≤ big) ∧ ∀ i, ab (w i) ≤ big := by
  have h' := congrFun h ix0
  have key : ∀ a b : BitVec 1, IntOp.andi a b = 1#1 → a = 1#1 ∧ b = 1#1 := by decide
  obtain ⟨h1, h2⟩ := key _ _ h'
  have le (a b : EReal) (e : Ideal.cmp .ole a b = 1#1) : a ≤ b := by
    by_contra hn
    simp only [Ideal.cmp, decide_eq_false hn] at e
    exact absurd e (by decide)
  have : Subsingleton Cert.Pre_in_range.S_.Idx := ⟨fun a b => funext fun k => absurd k.isLt (by simp)⟩
  exact ⟨fun i => le _ _ (Host.reduce_andi_all _ _ _ _ _ h1 i), fun i => le _ _ (Host.reduce_andi_all _ _ _ _ _ h2 i)⟩

end Cert.Values

end
-- ==== Proof.Pieces.lean ====
module

public import proofs.«01_k».proof.Proof.Rows

/-! The stores of one step, as lists of pieces over the step's blocks. -/

@[expose] public section

set_option maxRecDepth 65536

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The stores of the quantised rows of block `X`, last first. -/
def dyqL (X : Vec F S512x4096 .bf16) : List (View.Piece (Elt F) S512x4096 .fp8e5m2) :=
  [⟨Rect.unit (s := S512x4096) ![448, 0] S64x4096.size inb_S512x4096_S64x4096_448_0, q64 (View.ld X (Rect.unit (s := S512x4096) ![448, 0] S64x4096.size inb_S512x4096_S64x4096_448_0))⟩,
   ⟨Rect.unit (s := S512x4096) ![384, 0] S64x4096.size inb_S512x4096_S64x4096_384_0, q64 (View.ld X (Rect.unit (s := S512x4096) ![384, 0] S64x4096.size inb_S512x4096_S64x4096_384_0))⟩,
   ⟨Rect.unit (s := S512x4096) ![320, 0] S64x4096.size inb_S512x4096_S64x4096_320_0, q64 (View.ld X (Rect.unit (s := S512x4096) ![320, 0] S64x4096.size inb_S512x4096_S64x4096_320_0))⟩,
   ⟨Rect.unit (s := S512x4096) ![256, 0] S64x4096.size inb_S512x4096_S64x4096_256_0, q64 (View.ld X (Rect.unit (s := S512x4096) ![256, 0] S64x4096.size inb_S512x4096_S64x4096_256_0))⟩,
   ⟨Rect.unit (s := S512x4096) ![192, 0] S64x4096.size inb_S512x4096_S64x4096_192_0, q64 (View.ld X (Rect.unit (s := S512x4096) ![192, 0] S64x4096.size inb_S512x4096_S64x4096_192_0))⟩,
   ⟨Rect.unit (s := S512x4096) ![128, 0] S64x4096.size inb_S512x4096_S64x4096_128_0, q64 (View.ld X (Rect.unit (s := S512x4096) ![128, 0] S64x4096.size inb_S512x4096_S64x4096_128_0))⟩,
   ⟨Rect.unit (s := S512x4096) ![64, 0] S64x4096.size inb_S512x4096_S64x4096_64_0, q64 (View.ld X (Rect.unit (s := S512x4096) ![64, 0] S64x4096.size inb_S512x4096_S64x4096_64_0))⟩,
   ⟨Rect.unit (s := S512x4096) ![0, 0] S64x4096.size inb_S512x4096_S64x4096_0_0, q64 (View.ld X (Rect.unit (s := S512x4096) ![0, 0] S64x4096.size inb_S512x4096_S64x4096_0_0))⟩]

/-- The scales of the rows of block `X`, one in each lane of a row. -/
def scV (X : Vec F S512x4096 .bf16) : FVec F S512x128 .f32 :=
  cat8 (sc64 (View.ld X (Rect.unit (s := S512x4096) ![0, 0] S64x4096.size inb_S512x4096_S64x4096_0_0))) (sc64 (View.ld X (Rect.unit (s := S512x4096) ![64, 0] S64x4096.size inb_S512x4096_S64x4096_64_0))) (sc64 (View.ld X (Rect.unit (s := S512x4096) ![128, 0] S64x4096.size inb_S512x4096_S64x4096_128_0))) (sc64 (View.ld X (Rect.unit (s := S512x4096) ![192, 0] S64x4096.size inb_S512x4096_S64x4096_192_0))) (sc64 (View.ld X (Rect.unit (s := S512x4096) ![256, 0] S64x4096.size inb_S512x4096_S64x4096_256_0))) (sc64 (View.ld X (Rect.unit (s := S512x4096) ![320, 0] S64x4096.size inb_S512x4096_S64x4096_320_0))) (sc64 (View.ld X (Rect.unit (s := S512x4096) ![384, 0] S64x4096.size inb_S512x4096_S64x4096_384_0))) (sc64 (View.ld X (Rect.unit (s := S512x4096) ![448, 0] S64x4096.size inb_S512x4096_S64x4096_448_0)))

/-- The stores of the scales, last first. -/
def dysL (v : FVec F S512x128 .f32) : List (View.Piece (Elt F) S1x4x128 .f32) :=
  [⟨Rect.unit (s := S1x4x128) ![0, 3, 0] S1x1x128.size inb_S1x4x128_S1x1x128_0_3_0, k0_pay601 k0_pay331 v⟩,
   ⟨Rect.unit (s := S1x4x128) ![0, 2, 0] S1x1x128.size inb_S1x4x128_S1x1x128_0_2_0, k0_pay600 k0_pay331 v⟩,
   ⟨Rect.unit (s := S1x4x128) ![0, 1, 0] S1x1x128.size inb_S1x4x128_S1x1x128_0_1_0, k0_pay599 k0_pay331 v⟩,
   ⟨Rect.unit (s := S1x4x128) ![0, 0, 0] S1x1x128.size inb_S1x4x128_S1x1x128_0_0_0, diag0 v⟩]

/-- The stores of the products, last first. -/
def dxL (s : FVec F S512x256 .f32) (q : Vec F S512x4096 .fp8e5m2) (w : Vec F S2816x4096 .fp8e4m3) : List (View.Piece (Elt F) S512x2816 .bf16) :=
  [⟨Rect.unit (s := S512x2816) ![0, 2560] S512x256.size inb_S512x2816_S512x256_0_2560, k0_pay604 s q (View.ld w (Rect.unit (s := S2816x4096) ![2560, 0] S256x4096.size inb_S2816x4096_S256x4096_2560_0))⟩,
   ⟨Rect.unit (s := S512x2816) ![0, 2304] S512x256.size inb_S512x2816_S512x256_0_2304, k0_pay604 s q (View.ld w (Rect.unit (s := S2816x4096) ![2304, 0] S256x4096.size inb_S2816x4096_S256x4096_2304_0))⟩,
   ⟨Rect.unit (s := S512x2816) ![0, 2048] S512x256.size inb_S512x2816_S512x256_0_2048, k0_pay604 s q (View.ld w (Rect.unit (s := S2816x4096) ![2048, 0] S256x4096.size inb_S2816x4096_S256x4096_2048_0))⟩,
   ⟨Rect.unit (s := S512x2816) ![0, 1792] S512x256.size inb_S512x2816_S512x256_0_1792, k0_pay604 s q (View.ld w (Rect.unit (s := S2816x4096) ![1792, 0] S256x4096.size inb_S2816x4096_S256x4096_1792_0))⟩,
   ⟨Rect.unit (s := S512x2816) ![0, 1536] S512x256.size inb_S512x2816_S512x256_0_1536, k0_pay604 s q (View.ld w (Rect.unit (s := S2816x4096) ![1536, 0] S256x4096.size inb_S2816x4096_S256x4096_1536_0))⟩,
   ⟨Rect.unit (s := S512x2816) ![0, 1280] S512x256.size inb_S512x2816_S512x256_0_1280, k0_pay604 s q (View.ld w (Rect.unit (s := S2816x4096) ![1280, 0] S256x4096.size inb_S2816x4096_S256x4096_1280_0))⟩,
   ⟨Rect.unit (s := S512x2816) ![0, 1024] S512x256.size inb_S512x2816_S512x256_0_1024, k0_pay604 s q (View.ld w (Rect.unit (s := S2816x4096) ![1024, 0] S256x4096.size inb_S2816x4096_S256x4096_1024_0))⟩,
   ⟨Rect.unit (s := S512x2816) ![0, 768] S512x256.size inb_S512x2816_S512x256_0_768, k0_pay604 s q (View.ld w (Rect.unit (s := S2816x4096) ![768, 0] S256x4096.size inb_S2816x4096_S256x4096_768_0))⟩,
   ⟨Rect.unit (s := S512x2816) ![0, 512] S512x256.size inb_S512x2816_S512x256_0_512, k0_pay604 s q (View.ld w (Rect.unit (s := S2816x4096) ![512, 0] S256x4096.size inb_S2816x4096_S256x4096_512_0))⟩,
   ⟨Rect.unit (s := S512x2816) ![0, 256] S512x256.size inb_S512x2816_S512x256_0_256, k0_pay604 s q (View.ld w (Rect.unit (s := S2816x4096) ![256, 0] S256x4096.size inb_S2816x4096_S256x4096_256_0))⟩,
   ⟨Rect.unit (s := S512x2816) ![0, 0] S512x256.size inb_S512x2816_S512x256_0_0, k0_pay604 s q (View.ld w (Rect.unit (s := S2816x4096) ![0, 0] S256x4096.size inb_S2816x4096_S256x4096_0_0))⟩]

variable (c : Dev nD) (arg2 : Memref sig .tc .vmem S512x4096 .bf16) (f2 : Bf (F := F) c arg2)

theorem dyqL_eq : coreRun.sl.H6_8 c arg2 f2 = dyqL (arg2.view.read (Elt F) f2) := by rfl
theorem scV_eq : coreRun.sl.r_247 c arg2 f2 = scV (arg2.view.read (Elt F) f2) := by rfl
theorem dysL_eq : coreRun.sl.H7_4 c arg2 f2 = dysL (scV (arg2.view.read (Elt F) f2)) := by
  rw [← scV_eq]
  rfl

theorem dxL_eq (arg6 : Memref sig .tc .vmem S512x4096 .fp8e5m2) (arg9 : Memref sig .tc .vmem S2816x4096 .fp8e4m3) (arg10 : Memref sig .tc .vmem S8x128 .f32)
    (f9 : Bf (F := F) c arg9) (f10 : Bf (F := F) c arg10) :
    coreRun.sl.H3_11 c arg2 arg6 arg9 arg10 f2 f9 f10
      = dxL (k0_pay602 (coreRun.sl.r_247 c arg2 f2) (View.ld (arg10.view.read (Elt F) f10) (Rect.unit (s := S8x128) ![0, 0] S1x128.size inb_S8x128_S1x128_0_0)))
        (arg6.view.readCov (coreRun.sl.H6_8 c arg2 f2) (Rect.unit (s := S512x4096) ![0, 0] S512x4096.size inb_S512x4096_S512x4096_0_0).toLoadRect) (arg9.view.read (Elt F) f9) := by
  rfl

end Cert.KernelIdeal.Hand

end
-- ==== Proof.Blocks.lean ====
module

public import proofs.«01_k».proof.Proof.Values
public import proofs.«01_k».proof.Proof.Pieces
public import Idealize.ShloMosaic.Lib.Pointwise
public import Idealize.ShloMosaic.Lib.Pipeline.ValueKit
public import Idealize.ShloMosaic.Lib.Pipeline.ReadBack
public import Idealize.ShloMosaic.Lib.Ring

/-! What one step stores, at an index of its blocks. -/

@[expose] public section

set_option maxRecDepth 16384

noncomputable section

namespace Cert.Values

open Cert.KernelIdeal Cert.KernelIdeal.Gen Cert.KernelIdeal.Hand Idealize.ShloMosaic Cert.Scale

/-- A row of the block. -/
abbrev row (X : Vec Ideal S512x4096 .bf16) (r : Fin 512) : Fin 4096 → EReal := fun k => X (ix2 r k)

/-- The block quantised. -/
def dyqB (X : Vec Ideal S512x4096 .bf16) : Vec Ideal S512x4096 .fp8e5m2 :=
  fun y => clip 0xC7600000#32 0x47600000#32 (X y) (invK (pY (row X (y 0))))

theorem ld_rows (X : Vec Ideal S512x4096 .bf16) (o : ℕ) (inb : ∀ a, (![o, 0] : Fin 2 → ℕ) a + S64x4096.size a ≤ S512x4096.size a) (i : Fin 64) (k : Fin 4096)
    (h : o + i.val < 512) : View.ld X (Rect.unit (s := S512x4096) ![o, 0] S64x4096.size inb) (ix2 i k) = X (ix2 ⟨o + i.val, h⟩ k) := by
  show X _ = X _
  congr 1
  funext a
  match a with
  | ⟨0, _⟩ => exact Fin.ext (by show o + 1 * i.val = o + i.val; omega)
  | ⟨1, _⟩ => exact Fin.ext (by show 0 + 1 * k.val = k.val; omega)

theorem emb_rows (o : ℕ) (inb : ∀ a, (![o, 0] : Fin 2 → ℕ) a + S64x4096.size a ≤ S512x4096.size a) (i : Fin 64) (k : Fin 4096)
    (h : o + i.val < 512) : (Rect.unit (s := S512x4096) ![o, 0] S64x4096.size inb).emb (ix2 i k) = (ix2 ⟨o + i.val, h⟩ k : S512x4096.Idx) := by
  funext a
  match a with
  | ⟨0, _⟩ => exact Fin.ext (by show o + 1 * i.val = o + i.val; omega)
  | ⟨1, _⟩ => exact Fin.ext (by show 0 + 1 * k.val = k.val; omega)

theorem q_piece_at (X : Vec Ideal S512x4096 .bf16) (o : ℕ) (inb : ∀ a, (![o, 0] : Fin 2 → ℕ) a + S64x4096.size a ≤ S512x4096.size a) (i : Fin 64) (k : Fin 4096) :
    q64 (F := Ideal) (View.ld X (Rect.unit (s := S512x4096) ![o, 0] S64x4096.size inb)) (ix2 i k)
      = dyqB X ((Rect.unit (s := S512x4096) ![o, 0] S64x4096.size inb).emb (ix2 i k)) := by
  have h0 : o + 64 ≤ 512 := inb 0
  have h : o + i.val < 512 := by omega
  rw [emb_rows o inb i k h, q64_at]
  unfold dyqB row
  simp only [ld_rows X o inb i _ h]
  rfl

theorem q_piece (X : Vec Ideal S512x4096 .bf16) (o : ℕ) (inb : ∀ a, (![o, 0] : Fin 2 → ℕ) a + S64x4096.size a ≤ S512x4096.size a) (x : S64x4096.Idx) :
    q64 (F := Ideal) (View.ld X (Rect.unit (s := S512x4096) ![o, 0] S64x4096.size inb)) x = dyqB X ((Rect.unit (s := S512x4096) ![o, 0] S64x4096.size inb).emb x) := by
  rw [eq_ix2 x]
  exact q_piece_at X o inb (x 0) (x 1)

theorem dyq_block (X : Vec Ideal S512x4096 .bf16) : View.canon (dyqL X) = dyqB X := by
  funext y
  refine View.canon_apply_of_pieces (dyqB X) (dyqL X) (View.PiecesOf.mem ⟨?_, ?_, ?_, ?_, ?_, ?_, ?_, ?_, trivial⟩) y (View.cover_of_tiledL _ ![64, 4096] (by rfl) y)
  all_goals exact fun x => q_piece X _ _ x

theorem sc64_at (v : Vec Ideal S64x4096 .bf16) (i : Fin 64) (l : Fin 128) : sc64 (F := Ideal) v (ix2 i l) = scaleK (pY fun k => v (ix2 i k)) := by
  rw [sc64_eq, scaleV_at, p64_at]

theorem sc_piece (X : Vec Ideal S512x4096 .bf16) (o : ℕ) (inb : ∀ a, (![o, 0] : Fin 2 → ℕ) a + S64x4096.size a ≤ S512x4096.size a) (i : Fin 64) (l : Fin 128)
    (r : Fin 512) (h : o + i.val = r.val) : sc64 (F := Ideal) (View.ld X (Rect.unit (s := S512x4096) ![o, 0] S64x4096.size inb)) (ix2 i l) = scaleK (pY (row X r)) := by
  obtain ⟨r, hr⟩ := r
  obtain rfl : o + i.val = r := h
  rw [sc64_at]
  unfold row
  simp only [ld_rows X o inb i _ hr]

theorem scV_at (X : Vec Ideal S512x4096 .bf16) (r : Fin 512) (l : Fin 128) : scV (F := Ideal) X (ix2 r l) = scaleK (pY (row X r)) := by
  unfold scV cat8
  pointwise []
  split_ifs <;> refine sc_piece X _ _ _ _ r ?_ <;> dsimp only <;> omega

/-- The scales of the block's rows, 128 to a lane row. -/
def dysB (X : Vec Ideal S512x4096 .bf16) : Vec Ideal S1x4x128 .f32 := fun y =>
  scaleK (pY (row X ⟨128 * (y 1).val + (y 2).val, by have h1 : (y 1).val < 4 := (y 1).isLt; have h2 : (y 2).val < 128 := (y 2).isLt; omega⟩))

theorem eye_sum (f : Fin 128 → EReal) (l : Fin 128) :
    ∑ x : Fin 128, Scalar.select (IntOp.cmpi .eq (BitVec.ofNat 32 x.val) (BitVec.ofNat 32 l.val)) (f x) 0 = f l := by
  rw [Finset.sum_eq_single l]
  · have e : IntOp.cmpi .eq (BitVec.ofNat 32 l.val) (BitVec.ofNat 32 l.val) = 1#1 := by simp [IntOp.cmpi]
    rw [e]; rfl
  · intro x _ hx
    have e : IntOp.cmpi .eq (BitVec.ofNat 32 x.val) (BitVec.ofNat 32 l.val) = 0#1 := by
      have hne : BitVec.ofNat 32 x.val ≠ BitVec.ofNat 32 l.val := fun h => hx (Fin.ext (by
        have := congrArg BitVec.toNat h
        simp only [BitVec.toNat_ofNat] at this
        omega))
      show BitVec.ofBool (_ == _) = 0#1
      rw [beq_false_of_ne hne]
      rfl
    rw [e]; rfl
  · exact fun h => absurd (Finset.mem_univ l) h

theorem diag0_at (v : FVec Ideal S512x128 .f32) (l : Fin 128) : diag0 v (ix3 0 0 l) = v (ix2 ⟨l.val, by omega⟩ l) := by
  unfold diag0
  unfold_payloads
  pointwise []
  exact eye_sum (fun x => v (ix2 ⟨x.val, by omega⟩ l)) l
theorem diag1_at (v : FVec Ideal S512x128 .f32) (l : Fin 128) : k0_pay599 (F := Ideal) k0_pay331 v (ix3 0 0 l) = v (ix2 ⟨128 + l.val, by omega⟩ l) := by
  unfold_payloads
  pointwise []
  exact eye_sum (fun x => v (ix2 ⟨128 + x.val, by omega⟩ l)) l
theorem diag2_at (v : FVec Ideal S512x128 .f32) (l : Fin 128) : k0_pay600 (F := Ideal) k0_pay331 v (ix3 0 0 l) = v (ix2 ⟨256 + l.val, by omega⟩ l) := by
  unfold_payloads
  pointwise []
  exact eye_sum (fun x => v (ix2 ⟨256 + x.val, by omega⟩ l)) l
theorem diag3_at (v : FVec Ideal S512x128 .f32) (l : Fin 128) : k0_pay601 (F := Ideal) k0_pay331 v (ix3 0 0 l) = v (ix2 ⟨384 + l.val, by omega⟩ l) := by
  unfold_payloads
  pointwise []
  exact eye_sum (fun x => v (ix2 ⟨384 + x.val, by omega⟩ l)) l

theorem dys_emb (a : ℕ) (ha : a < 4) (inb : ∀ i, (![0, a, 0] : Fin 3 → ℕ) i + S1x1x128.size i ≤ S1x4x128.size i) (l : Fin 128) :
    (Rect.unit (s := S1x4x128) ![0, a, 0] S1x1x128.size inb).emb (ix3 0 0 l) = (ix3 0 ⟨a, ha⟩ l : S1x4x128.Idx) := by
  funext i
  match i with
  | ⟨0, _⟩ => exact Fin.ext (by show 0 + 1 * 0 = 0; omega)
  | ⟨1, _⟩ => exact Fin.ext (by show a + 1 * 0 = a; omega)
  | ⟨2, _⟩ => exact Fin.ext (by show 0 + 1 * l.val = l.val; omega)

theorem dys_piece (X : Vec Ideal S512x4096 .bf16) (a : ℕ) (ha : a < 4) (inb : ∀ i, (![0, a, 0] : Fin 3 → ℕ) i + S1x1x128.size i ≤ S1x4x128.size i)
    (p : FVec Ideal S1x1x128 .f32) (hp : ∀ l : Fin 128, p (ix3 0 0 l) = scV (F := Ideal) X (ix2 ⟨128 * a + l.val, by omega⟩ l)) (x : S1x1x128.Idx) :
    p x = dysB X ((Rect.unit (s := S1x4x128) ![0, a, 0] S1x1x128.size inb).emb x) := by
  obtain ⟨l, rfl⟩ : ∃ l : Fin 128, x = ix3 0 0 l := ⟨x 2, by
    rw [eq_ix3 x]
    congr 1
    · exact Subsingleton.elim (α := Fin 1) _ _
    · exact Subsingleton.elim (α := Fin 1) _ _⟩
  rw [dys_emb a ha inb l, hp, scV_at]
  rfl

theorem dys_block (X : Vec Ideal S512x4096 .bf16) : View.canon (dysL (scV (F := Ideal) X)) = dysB X := by
  funext y
  refine View.canon_apply_of_pieces (dysB X) (dysL (scV (F := Ideal) X)) (View.PiecesOf.mem ⟨?_, ?_, ?_, ?_, trivial⟩) y (View.cover_of_tiledL _ ![1, 1, 128] (by rfl) y)
  · exact fun x => dys_piece X 3 (by omega) inb_S1x4x128_S1x1x128_0_3_0 _ (fun l => diag3_at _ l) x
  · exact fun x => dys_piece X 2 (by omega) inb_S1x4x128_S1x1x128_0_2_0 _ (fun l => diag2_at _ l) x
  · exact fun x => dys_piece X 1 (by omega) inb_S1x4x128_S1x1x128_0_1_0 _ (fun l => diag1_at _ l) x
  · exact fun x => dys_piece X 0 (by omega) inb_S1x4x128_S1x1x128_0_0_0 _ (fun l => (diag0_at _ l).trans (congrArg _ (congrArg (fun r => ix2 r l) (Fin.ext (by simp))))) x

theorem tile_at (s : FVec Ideal S512x256 .f32) (q : Vec Ideal S512x4096 .fp8e5m2) (w : Vec Ideal S256x4096 .fp8e4m3) (r : Fin 512) (j : Fin 256) :
    k0_pay604 (F := Ideal) s q w (ix2 r j) = (∑ k : Fin 4096, q (ix2 r k) * w (ix2 j k)) * s (ix2 r j) := by
  unfold_payloads
  pointwise []

theorem post_at (v : FVec Ideal S512x128 .f32) (w : Vec Ideal S1x128 .f32) (r : Fin 512) (j : Fin 256) :
    ∃ l : Fin 128, k0_pay602 (F := Ideal) v w (ix2 r j) = v (ix2 r l) * w (ix2 0 l) := by
  unfold_payloads
  pointwise []
  split_ifs <;> exact ⟨_, rfl⟩

/-- The block of products: the quantised rows against the quantised weight, times both scales. -/
def dxB (X : Vec Ideal S512x4096 .bf16) (W : Vec Ideal S2816x4096 .fp8e4m3) (ws : EReal) : Vec Ideal S512x2816 .bf16 := fun y =>
  (∑ k : Fin 4096, dyqB X (ix2 (y 0) k) * W (ix2 (y 1) k)) * (scaleK (pY (row X (y 0))) * ws)

theorem ld_w (W : Vec Ideal S2816x4096 .fp8e4m3) (o : ℕ) (inb : ∀ a, (![o, 0] : Fin 2 → ℕ) a + S256x4096.size a ≤ S2816x4096.size a) (j : Fin 256) (k : Fin 4096)
    (h : o + j.val < 2816) : View.ld W (Rect.unit (s := S2816x4096) ![o, 0] S256x4096.size inb) (ix2 j k) = W (ix2 ⟨o + j.val, h⟩ k) := by
  show W _ = W _
  congr 1
  funext a
  match a with
  | ⟨0, _⟩ => exact Fin.ext (by show o + 1 * j.val = o + j.val; omega)
  | ⟨1, _⟩ => exact Fin.ext (by show 0 + 1 * k.val = k.val; omega)

theorem emb_dx (o : ℕ) (inb : ∀ a, (![0, o] : Fin 2 → ℕ) a + S512x256.size a ≤ S512x2816.size a) (r : Fin 512) (j : Fin 256)
    (h : o + j.val < 2816) : (Rect.unit (s := S512x2816) ![0, o] S512x256.size inb).emb (ix2 r j) = (ix2 r ⟨o + j.val, h⟩ : S512x2816.Idx) := by
  funext a
  match a with
  | ⟨0, _⟩ => exact Fin.ext (by show 0 + 1 * r.val = r.val; omega)
  | ⟨1, _⟩ => exact Fin.ext (by show o + 1 * j.val = o + j.val; omega)

theorem dx_piece_at (X : Vec Ideal S512x4096 .bf16) (W : Vec Ideal S2816x4096 .fp8e4m3) (ws : EReal) (v : Vec Ideal S1x128 .f32) (hv : ∀ l, v (ix2 0 l) = ws)
    (o : ℕ) (inb : ∀ a, (![0, o] : Fin 2 → ℕ) a + S512x256.size a ≤ S512x2816.size a) (inb' : ∀ a, (![o, 0] : Fin 2 → ℕ) a + S256x4096.size a ≤ S2816x4096.size a)
    (r : Fin 512) (j : Fin 256) :
    k0_pay604 (F := Ideal) (k0_pay602 (scV X) v) (dyqB X) (View.ld W (Rect.unit (s := S2816x4096) ![o, 0] S256x4096.size inb')) (ix2 r j)
      = dxB X W ws ((Rect.unit (s := S512x2816) ![0, o] S512x256.size inb).emb (ix2 r j)) := by
  have h0 : o + 256 ≤ 2816 := inb' 0
  have h : o + j.val < 2816 := by omega
  obtain ⟨l, hl⟩ := post_at (scV (F := Ideal) X) v r j
  rw [emb_dx o inb r j h, tile_at, hl, scV_at, hv]
  simp only [ld_w W o inb' j _ h]
  rfl

theorem dx_piece (X : Vec Ideal S512x4096 .bf16) (W : Vec Ideal S2816x4096 .fp8e4m3) (ws : EReal) (v : Vec Ideal S1x128 .f32) (hv : ∀ l, v (ix2 0 l) = ws)
    (o : ℕ) (inb : ∀ a, (![0, o] : Fin 2 → ℕ) a + S512x256.size a ≤ S512x2816.size a) (inb' : ∀ a, (![o, 0] : Fin 2 → ℕ) a + S256x4096.size a ≤ S2816x4096.size a)
    (x : S512x256.Idx) :
    k0_pay604 (F := Ideal) (k0_pay602 (scV X) v) (dyqB X) (View.ld W (Rect.unit (s := S2816x4096) ![o, 0] S256x4096.size inb')) x
      = dxB X W ws ((Rect.unit (s := S512x2816) ![0, o] S512x256.size inb).emb x) := by
  rw [eq_ix2 x]
  exact dx_piece_at X W ws v hv o inb inb' (x 0) (x 1)

theorem dx_block (X : Vec Ideal S512x4096 .bf16) (W : Vec Ideal S2816x4096 .fp8e4m3) (ws : EReal) (v : Vec Ideal S1x128 .f32) (hv : ∀ l, v (ix2 0 l) = ws) :
    View.canon (dxL (k0_pay602 (scV (F := Ideal) X) v) (dyqB X) W) = dxB X W ws := by
  funext y
  refine View.canon_apply_of_pieces (dxB X W ws) (dxL (k0_pay602 (scV (F := Ideal) X) v) (dyqB X) W)
    (View.PiecesOf.mem ⟨?_, ?_, ?_, ?_, ?_, ?_, ?_, ?_, ?_, ?_, ?_, trivial⟩) y (View.cover_of_tiledL _ ![512, 256] (by rfl) y)
  · exact fun x => dx_piece X W ws v hv 2560 inb_S512x2816_S512x256_0_2560 inb_S2816x4096_S256x4096_2560_0 x
  · exact fun x => dx_piece X W ws v hv 2304 inb_S512x2816_S512x256_0_2304 inb_S2816x4096_S256x4096_2304_0 x
  · exact fun x => dx_piece X W ws v hv 2048 inb_S512x2816_S512x256_0_2048 inb_S2816x4096_S256x4096_2048_0 x
  · exact fun x => dx_piece X W ws v hv 1792 inb_S512x2816_S512x256_0_1792 inb_S2816x4096_S256x4096_1792_0 x
  · exact fun x => dx_piece X W ws v hv 1536 inb_S512x2816_S512x256_0_1536 inb_S2816x4096_S256x4096_1536_0 x
  · exact fun x => dx_piece X W ws v hv 1280 inb_S512x2816_S512x256_0_1280 inb_S2816x4096_S256x4096_1280_0 x
  · exact fun x => dx_piece X W ws v hv 1024 inb_S512x2816_S512x256_0_1024 inb_S2816x4096_S256x4096_1024_0 x
  · exact fun x => dx_piece X W ws v hv 768 inb_S512x2816_S512x256_0_768 inb_S2816x4096_S256x4096_768_0 x
  · exact fun x => dx_piece X W ws v hv 512 inb_S512x2816_S512x256_0_512 inb_S2816x4096_S256x4096_512_0 x
  · exact fun x => dx_piece X W ws v hv 256 inb_S512x2816_S512x256_0_256 inb_S2816x4096_S256x4096_256_0 x
  · exact fun x => dx_piece X W ws v hv 0 inb_S512x2816_S512x256_0_0 inb_S2816x4096_S256x4096_0_0 x

end Cert.Values

end
-- ==== Proof.Arrays.lean ====
module

public import proofs.«01_k».proof.Proof.Run
public import proofs.«01_k».proof.Proof.Blocks
public import proofs.«01_k».proof.Proof.Weight
public import Idealize.ShloMosaic.Lib.Pointwise
public import Idealize.ShloMosaic.Lib.Pipeline.ValueKit

/-! The kernel's result arrays after the run, as functions of the two arguments. -/

@[expose] public section

set_option maxRecDepth 65536

noncomputable section

namespace Cert.Values

open Cert.KernelIdeal Cert.KernelIdeal.Gen Cert.KernelIdeal.Hand
open Cert.Scale Cert.Refs
open Idealize.ShloMosaic Idealize.ShloMosaic.TcCoe
open Idealize.SL.Sem

variable (m : (ℓ : Loc nD τ sig) → Buf (Elt Ideal) ℓ)

/-! ## What one step leaves in its blocks -/

theorem dyqAt_eq (c : Dev nD) (t : Fin cfg0.N) : dyqAt m c t = dyqB (iblk m c 0 t) := by
  unfold dyqAt runAt coreRun
  dsimp only
  rw [View.read_writes_junk_eq_canon, dyqL_eq, (hs0 t).read_unread, dyq_block]

theorem dysAt_eq (c : Dev nD) (t : Fin cfg0.N) : dysAt m c t = dysB (iblk m c 0 t) := by
  unfold dysAt runAt coreRun
  dsimp only
  rw [View.read_writes_junk_eq_canon, dysL_eq, (hs0 t).read_unread, dys_block]

theorem whole_idx (j : S512x4096.Idx) :
    (Rect.unit (s := S512x4096) ![0, 0] S512x4096.size inb_S512x4096_S512x4096_0_0).toLoadRect.idx j = j := by
  funext a
  match a with
  | ⟨0, _⟩ => exact Fin.ext (by show 0 + 1 * (j 0).val = (j 0).val; omega)
  | ⟨1, _⟩ => exact Fin.ext (by show 0 + 1 * (j 1).val = (j 1).val; omega)

theorem readCov_dyq (c : Dev nD) (M : Memref sig .tc .vmem S512x4096 .fp8e5m2) (X : Vec Ideal S512x4096 .bf16) :
    M.view.readCov (dyqL (F := Ideal) X) (Rect.unit (s := S512x4096) ![0, 0] S512x4096.size inb_S512x4096_S512x4096_0_0).toLoadRect = dyqB X := by
  rw [View.readCov_eq_canon', dyq_block]
  funext j
  exact congrArg (dyqB X) (whole_idx j)

theorem ws_row (w : Vec Ideal S2816x4096 .bf16) (l : Fin 128) :
    View.ld (Val := Elt Ideal) (e' := .f32) (ws10 (F := Ideal) w : Vec Ideal S8x128 .f32) (Rect.unit (s := S8x128) ![0, 0] S1x128.size inb_S8x128_S1x128_0_0) (ix2 0 l) = scaleK (pW fun i k => w (ix2 i k)) := by
  rw [← ws10_at w 0 l]
  show (ws10 w : Vec Ideal S8x128 .f32) _ = ws10 w _
  congr 1
  funext a
  match a with
  | ⟨0, _⟩ => exact Fin.ext (by show 0 + 1 * 0 = 0; omega)
  | ⟨1, _⟩ => exact Fin.ext (by show 0 + 1 * l.val = l.val; omega)

theorem dxAt_eq (c : Dev nD) (t : Fin cfg0.N) :
    dxAt m c t = dxB (iblk m c 0 t) (WQ (wIn m c)) (scaleK (pW fun i k => wIn m c (ix2 i k))) := by
  unfold dxAt runAt coreRun
  dsimp only
  rw [View.read_writes_junk_eq_canon, dxL_eq, scV_eq, dyqL_eq, (hs0 t).read_unread, readCov_dyq c]
  exact dx_block _ _ _ _ (ws_row _)

/-! ## The arrays -/

/-- Row `r` of an array of 32768 rows. -/
def rowX (X : Vec Ideal S32768x4096 .bf16) (r : Fin 32768) : Fin 4096 → EReal := fun k => X (ix2 r k)

/-- The quantised rows. -/
def dyqG (X : Vec Ideal S32768x4096 .bf16) : Vec Ideal S32768x4096 .fp8e5m2 := fun y =>
  clip 0xC7600000#32 0x47600000#32 (X y) (invK (pY (rowX X (y 0))))

/-- The scales of the rows, as the kernel lays them out. -/
def dysG (X : Vec Ideal S32768x4096 .bf16) : Vec Ideal S64x4x128 .f32 := fun y =>
  scaleK (pY (rowX X ⟨512 * (y 0).val + 128 * (y 1).val + (y 2).val, by
    have h0 : (y 0).val < 64 := (y 0).isLt
    have h1 : (y 1).val < 4 := (y 1).isLt
    have h2 : (y 2).val < 128 := (y 2).isLt
    omega⟩))

/-- The products. -/
def dxG (X : Vec Ideal S32768x4096 .bf16) (w : Vec Ideal S2816x4096 .bf16) : Vec Ideal S32768x2816 .bf16 := fun y =>
  (∑ k : Fin 4096, dyqG X (ix2 (y 0) k) * WQ w (ix2 (y 1) k)) * (scaleK (pY (rowX X (y 0))) * scaleK (pW fun i k => w (ix2 i k)))

theorem idx0 : ∀ t : Fin grid0.N, win0_0.index t = ![t.val, 0] := by decide +kernel
theorem idx1 : ∀ t : Fin grid0.N, win0_1.index t = ![t.val, 0] := by decide +kernel
theorem idx3 : ∀ t : Fin grid0.N, win0_3.index t = ![t.val, 0] := by decide +kernel
theorem idx4 : ∀ t : Fin grid0.N, win0_4.index t = ![t.val, 0, 0] := by decide +kernel

theorem place (t : Fin cfg0.N) (i : Fin 512) : 512 * t.val + i.val < 32768 := by
  have : t.val < 64 := t.isLt
  omega

theorem iblk_at (c : Dev nD) (t : Fin cfg0.N) (i : Fin 512) (k : Fin 4096) :
    iblk m c 0 t (ix2 i k) = (V m c main_v0 : Vec Ideal S32768x4096 .bf16) (ix2 ⟨512 * t.val + i.val, place t i⟩ k) := by
  blk_ext [iblk, idx0 t]

theorem emb3 (t : Fin cfg0.N) (i : Fin 512) (k : Fin 4096) :
    ((cfg0.win 3).blk t).view.emb (ix2 i k) = (ix2 ⟨512 * t.val + i.val, place t i⟩ k : S32768x4096.Idx) := by
  blk_ext [idx3 t]

theorem emb1 (t : Fin cfg0.N) (i : Fin 512) (k : Fin 2816) :
    ((cfg0.win 1).blk t).view.emb (ix2 i k) = (ix2 ⟨512 * t.val + i.val, place t i⟩ k : S32768x2816.Idx) := by
  blk_ext [idx1 t]

theorem emb4 (t : Fin cfg0.N) (a : Fin 4) (l : Fin 128) :
    ((cfg0.win 4).blk t).view.emb (ix3 0 a l) = (ix3 ⟨t.val, t.isLt⟩ a l : S64x4x128.Idx) := by
  blk_ext [idx4 t]

theorem row_iblk (c : Dev nD) (t : Fin cfg0.N) (i : Fin 512) :
    row (iblk m c 0 t) i = rowX (V m c main_v0 : Vec Ideal S32768x4096 .bf16) ⟨512 * t.val + i.val, place t i⟩ :=
  funext fun k => iblk_at m c t i k

theorem dyqB_iblk (c : Dev nD) (t : Fin cfg0.N) (i : Fin 512) (k : Fin 4096) :
    dyqB (iblk m c 0 t) (ix2 i k) = dyqG (V m c main_v0) (ix2 ⟨512 * t.val + i.val, place t i⟩ k) := by
  unfold dyqB dyqG
  rw [iblk_at]
  exact congrArg (fun r => clip _ _ _ (invK (pY r))) (row_iblk m c t i)

theorem arr_dyq (c : Dev nD) : (dats m 0 c).arrAt 3 cfg0.N = dyqG (V m c main_v0) := by
  refine (dats m 0 c).arrAt_eq_of_covers 3 _ (by decide +kernel) fun t hf y => ?_
  blk_simp
  rw [after0_3, dyqAt_eq]
  obtain ⟨i, k, rfl⟩ : ∃ (i : Fin 512) (k : Fin 4096), y = ix2 i k := ⟨y 0, y 1, eq_ix2 y⟩
  exact (dyqB_iblk m c t i k).trans (congrArg _ (emb3 t i k).symm)

theorem arr_dys (c : Dev nD) : (dats m 0 c).arrAt 4 cfg0.N = dysG (V m c main_v0) := by
  refine (dats m 0 c).arrAt_eq_of_covers 4 _ (by decide +kernel) fun t hf y => ?_
  blk_simp
  rw [after0_4, dysAt_eq]
  obtain ⟨a, l, rfl⟩ : ∃ (a : Fin 4) (l : Fin 128), y = ix3 0 a l := ⟨y 1, y 2, by
    rw [eq_ix3 y]
    congr 1
    exact Subsingleton.elim (α := Fin 1) _ _⟩
  refine Eq.trans ?_ (congrArg (dysG (V m c main_v0)) (emb4 t a l).symm)
  refine congrArg (fun r => scaleK (pY r)) ((row_iblk m c t _).trans (congrArg (rowX _) (Fin.ext ?_)))
  show 512 * t.val + (128 * a.val + l.val) = 512 * t.val + 128 * a.val + l.val
  omega

theorem arr_dx (c : Dev nD) : (dats m 0 c).arrAt 1 cfg0.N = dxG (V m c main_v0) (wIn m c) := by
  refine (dats m 0 c).arrAt_eq_of_covers 1 _ (by decide +kernel) fun t hf y => ?_
  blk_simp
  rw [after0_1, dxAt_eq]
  obtain ⟨i, k, rfl⟩ : ∃ (i : Fin 512) (k : Fin 2816), y = ix2 i k := ⟨y 0, y 1, eq_ix2 y⟩
  refine Eq.trans ?_ (congrArg (dxG (V m c main_v0) (wIn m c)) (emb1 t i k).symm)
  exact congr (congrArg HMul.hMul (Finset.sum_congr rfl fun x _ => congrArg (· * _) (dyqB_iblk m c t i x)))
    (congrArg (fun r => scaleK (pY r) * _) (row_iblk m c t i))

theorem one_idx (a b : S1x1.Idx) : a = b := funext fun k => match k with
  | ⟨0, _⟩ => Subsingleton.elim (α := Fin 1) _ _
  | ⟨1, _⟩ => Subsingleton.elim (α := Fin 1) _ _

theorem arr_ws (c : Dev nD) : (dats m 0 c).arrAt 2 cfg0.N = wsV (wIn m c) := by
  refine (dats m 0 c).arrAt_eq_of_covers 2 _ (by decide +kernel) fun t hf y => ?_
  blk_simp
  rw [after0_2]
  exact congrArg (wsV (wIn m c)) (one_idx _ _)

end Cert.Values

end
-- ==== Proof.Results.lean ====
module

public import proofs.«01_k».proof.Proof.Frames
public import proofs.«01_k».proof.Proof.Arrays
public import Idealize.ShloMosaic.Lib.Claim
public import Idealize.ShloMosaic.Lib.StableHlo.RunRead

/-! The kernel's results after the last host operations, as functions of the two arguments. -/

@[expose] public section

set_option maxRecDepth 65536

noncomputable section

namespace Cert.Values

open Cert.KernelIdeal Cert.KernelIdeal.Gen Cert.KernelIdeal.Hand
open Cert.Scale Cert.Refs
open Idealize.ShloMosaic Idealize.ShloMosaic.TcCoe
open Idealize.SL.Sem

variable (m : (ℓ : Loc nD τ sig) → Buf (Elt Ideal) ℓ)

/-- The rows of the gradient. -/
abbrev rowsOf (x : Vec Ideal S4x8192x4096 .bf16) : Vec Ideal S32768x4096 .bf16 := shapeCast S32768x4096 x shapeCasts_S4x8192x4096_S32768x4096

theorem yIn_eq (c : Dev nD) : (V m c main_v0 : Vec Ideal S32768x4096 .bf16) = rowsOf (m ((c.tc : Thread nD τ).loc main_arg0)) := by
  unfold V V0
  simp only [hostOps0, List.flatten_cons, List.flatten_nil, List.append_nil]
  after_results
  rfl

theorem wIn_eq (c : Dev nD) : wIn m c = m ((c.tc : Thread nD τ).loc main_arg1) := V_main_arg1 m c

theorem after_other (U : Valuation τ sig (Elt Ideal)) (b : Ref sig .tc) (h1 : b ∉ ({main_v2, main_v3, main_v4} : Finset (Ref sig .tc))) :
    StableHlo.after [hostOps1].flatten U (Proc.devRef .tc b) = U (Proc.devRef .tc b) := by
  simp only [Finset.mem_insert, Finset.mem_singleton, not_or] at h1
  exact StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h1.1, StableHlo.devRef_ne_of_ne h1.2.1, StableHlo.devRef_ne_of_ne h1.2.2⟩))

theorem after_v2 (U : Valuation τ sig (Elt Ideal)) : (StableHlo.after [hostOps1].flatten U (Proc.devRef .tc main_v2) : Vec Ideal S4x8192x2816 .bf16)
    = shapeCast S4x8192x2816 (U (Proc.devRef .tc main_v1_0) : Vec Ideal S32768x2816 .bf16) shapeCasts_S32768x2816_S4x8192x2816 := by
  simp only [hostOps1, List.flatten_cons, List.flatten_nil, List.append_nil]
  after_results
  rfl
theorem after_v3 (U : Valuation τ sig (Elt Ideal)) : (StableHlo.after [hostOps1].flatten U (Proc.devRef .tc main_v3) : Vec Ideal S4x8192x4096 .fp8e5m2)
    = shapeCast S4x8192x4096 (U (Proc.devRef .tc main_v1_3) : Vec Ideal S32768x4096 .fp8e5m2) shapeCasts_S32768x4096_S4x8192x4096 := by
  simp only [hostOps1, List.flatten_cons, List.flatten_nil, List.append_nil]
  after_results
  rfl
theorem after_v4 (U : Valuation τ sig (Elt Ideal)) : (StableHlo.after [hostOps1].flatten U (Proc.devRef .tc main_v4) : Vec Ideal S4x8192x1 .f32)
    = shapeCast S4x8192x1 (U (Proc.devRef .tc main_v1_4) : Vec Ideal S64x4x128 .f32) shapeCasts_S64x4x128_S4x8192x1 := by
  simp only [hostOps1, List.flatten_cons, List.flatten_nil, List.append_nil]
  after_results
  rfl

theorem VX_arr (c : Dev nD) (w : Fin cfg0.W) : VX m c (Proc.devRef .tc (Pipeline.arrRef spec0 w)) = (dats m 0 c).arrAt w cfg0.N :=
  Pipeline.withArrays_arr spec0 (by decide) c _ _ w

theorem VX_wq (c : Dev nD) : VX m c (Proc.devRef .tc main_v1_1) = WQ (wIn m c) := by
  rw [show VX m c (Proc.devRef .tc main_v1_1) = _ from Pipeline.withArrays_of_ne _ c _ _ main_v1_1 (by exact (by decide : ∀ w, Pipeline.arrRef spec0 w ≠ main_v1_1)),
    Pipeline.withR_of_mem _ _ _ _ main_v1_1 (by decide), G0_wq]

/-- What the kernel's run leaves in its five results. -/
theorem kernel_run (ρ : Dev nD → PrngReg) : θ_run defs (onTc (τ := τ) (main (F := Ideal))) ⟨m, fun _ => 0, ρ⟩ (fun r => ∀ c : Dev nD,
      r.2.mem ((c.tc : Thread nD τ).loc main_v2) = shapeCast S4x8192x2816 (dxG (rowsOf (m ((c.tc : Thread nD τ).loc main_arg0))) (m ((c.tc : Thread nD τ).loc main_arg1))) shapeCasts_S32768x2816_S4x8192x2816
      ∧ r.2.mem ((c.tc : Thread nD τ).loc main_v1_1) = WQ (F := Ideal) (m ((c.tc : Thread nD τ).loc main_arg1))
      ∧ r.2.mem ((c.tc : Thread nD τ).loc main_v1_2) = wsV (F := Ideal) (m ((c.tc : Thread nD τ).loc main_arg1))
      ∧ r.2.mem ((c.tc : Thread nD τ).loc main_v3) = shapeCast S4x8192x4096 (dyqG (rowsOf (m ((c.tc : Thread nD τ).loc main_arg0)))) shapeCasts_S32768x4096_S4x8192x4096
      ∧ r.2.mem ((c.tc : Thread nD τ).loc main_v4) = shapeCast S4x8192x1 (dysG (rowsOf (m ((c.tc : Thread nD τ).loc main_arg0)))) shapeCasts_S64x4x128_S4x8192x1
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h => ?_) (θ_run_and (Cert.KernelIdeal.Hand.frame m ρ) (run_main m ρ))
  intro c
  obtain ⟨⟨hf, -⟩, hp, -⟩ := h
  have rest (b : Ref sig .tc) (hb : b ∈ Pipeline.restRefs sig spec0) : r.2.mem ((c.tc : Thread nD τ).loc b) = StableHlo.after [hostOps1].flatten (VX m c) (Proc.devRef .tc b) := (hp c).2 b hb
  refine ⟨?_, ?_, ?_, ?_, ?_, hf c⟩
  · rw [rest main_v2 (Pipeline.mem_restRefs_of main_v2 (by decide) (by decide)), after_v2, show VX m c (Proc.devRef .tc main_v1_0) = _ from VX_arr m c 1, arr_dx, yIn_eq, wIn_eq]
  · rw [rest main_v1_1 (Pipeline.mem_restRefs_of main_v1_1 (by decide) (by decide)), after_other _ _ (by decide), VX_wq, wIn_eq]
  · exact ((hp c).1 2).trans ((arr_ws m c).trans (by rw [wIn_eq]))
  · rw [rest main_v3 (Pipeline.mem_restRefs_of main_v3 (by decide) (by decide)), after_v3, show VX m c (Proc.devRef .tc main_v1_3) = _ from VX_arr m c 3, arr_dyq, yIn_eq]
  · rw [rest main_v4 (Pipeline.mem_restRefs_of main_v4 (by decide) (by decide)), after_v4, show VX m c (Proc.devRef .tc main_v1_4) = _ from VX_arr m c 4, arr_dys, yIn_eq]

end Cert.Values

end
-- ==== Proof.RefArrays.lean ====
module

public import proofs.«01_k».proof.Proof.Refs
public import proofs.«01_k».proof.Proof.Gen.ReferenceIdeal.Frame
public import Idealize.ShloMosaic.Lib.Pointwise
public import Idealize.ShloMosaic.Lib.Pipeline.ValueKit

/-! The reference's result arrays after the run, as functions of the two arguments. -/

@[expose] public section

set_option maxRecDepth 65536

noncomputable section

namespace Cert.Refs

open Cert.ReferenceIdeal Cert.ReferenceIdeal.Gen
open Cert.Scale Cert.Values
open Idealize.ShloMosaic Idealize.ShloMosaic.TcCoe
open Idealize.SL.Sem

variable (m : (ℓ : Loc nD τ sig) → Buf (Elt Ideal) ℓ)

/-- The gradient's rows and the weight, as the region finds them. -/
abbrev yIn (c : Dev nD) : Vec Ideal S32768x4096 .bf16 := V m c main_v0
abbrev wIn (c : Dev nD) : Vec Ideal S2816x4096 .bf16 := V m c main_arg1

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel

theorem iblk0 (c : Dev nD) (t : Fin cfg0.N) : iblk m c 0 t = yIn m c := by
  funext y
  obtain ⟨i, k, rfl⟩ : ∃ (i : Fin 32768) (k : Fin 4096), y = ix2 i k := ⟨y 0, y 1, eq_ix2 y⟩
  blk_ext [iblk, idx0 t]
theorem iblk1 (c : Dev nD) (t : Fin cfg0.N) : iblk m c 1 t = wIn m c := by
  funext y
  obtain ⟨i, k, rfl⟩ : ∃ (i : Fin 2816) (k : Fin 4096), y = ix2 i k := ⟨y 0, y 1, eq_ix2 y⟩
  blk_ext [iblk, idx1 t]

theorem emb2 (t : Fin cfg0.N) (i : Fin 32768) (k : Fin 2816) : ((cfg0.win 2).blk t).view.emb (ix2 i k) = (ix2 i k : S32768x2816.Idx) := by
  blk_ext [idx2 t]
theorem emb3 (t : Fin cfg0.N) (i : Fin 2816) (k : Fin 4096) : ((cfg0.win 3).blk t).view.emb (ix2 i k) = (ix2 i k : S2816x4096.Idx) := by
  blk_ext [idx3 t]
theorem emb4 (t : Fin cfg0.N) : ((cfg0.win 4).blk t).view.emb (ix2 0 0) = (ix2 0 0 : S1x1.Idx) := by
  blk_ext [idx4 t]
theorem emb5 (t : Fin cfg0.N) (i : Fin 32768) (k : Fin 4096) : ((cfg0.win 5).blk t).view.emb (ix2 i k) = (ix2 i k : S32768x4096.Idx) := by
  blk_ext [idx5 t]
theorem emb6 (t : Fin cfg0.N) (i : Fin 32768) : ((cfg0.win 6).blk t).view.emb (ix2 i 0) = (ix2 i 0 : S32768x1.Idx) := by
  blk_ext [idx6 t]

theorem hz : (![0, 0] : Fin 2 → ℕ) = fun _ => 0 := by funext i; match i with | ⟨0, _⟩ => rfl | ⟨1, _⟩ => rfl

theorem ld0 (x : Vec Ideal S32768x4096 .bf16) : View.ld x r0_1 = x := View.ld_unit_zero hz _ _
theorem ld1 (x : Vec Ideal S2816x4096 .bf16) : View.ld x r0_0 = x := View.ld_unit_zero hz _ _

section Stores
variable (x0 : Vec Ideal S32768x4096 .bf16) (x1 : Vec Ideal S2816x4096 .bf16)

theorem out2 : out0_2 x0 x1 = k0_pay4 (k0_pay7 x1) (k0_pay8 x1) (k0_pay9 x0) (k0_pay11 x0) (k0_pay12 x0) (Scalar.ofBits .f32 0x40000000#32) := by
  unfold out0_2 k0_pay13 k0_pay14 k0_pay15 k0_pay16 k0_pay17
  rw [ld0, ld1]
  exact View.canon_unit_zero hz _ _
theorem out3 : out0_3 x0 x1 = k0_pay7 x1 := by
  unfold out0_3 k0_pay13
  rw [ld1]
  exact View.canon_unit_zero hz _ _
theorem out4 : out0_4 x0 x1 = k0_pay8 x1 := by
  unfold out0_4 k0_pay14
  rw [ld1]
  exact View.canon_unit_zero hz _ _
theorem out5 : out0_5 x0 x1 = k0_pay2 (k0_pay9 x0) (k0_pay11 x0) (k0_pay12 x0) (Scalar.ofBits .f32 0x40000000#32) := by
  unfold out0_5 k0_pay15 k0_pay16 k0_pay17
  rw [ld0]
  exact View.canon_unit_zero hz _ _
theorem out6 : out0_6 x0 x1 = k0_pay3 (k0_pay11 x0) (k0_pay12 x0) (Scalar.ofBits .f32 0x40000000#32) := by
  unfold out0_6 k0_pay16 k0_pay17
  rw [ld0]
  exact View.canon_unit_zero hz _ _
end Stores

/-! ## The arrays -/

/-- Row `r`. -/
def rowY (X : Vec Ideal S32768x4096 .bf16) (r : Fin 32768) : Fin 4096 → EReal := fun k => X (ix2 r k)
/-- The weight by its two coordinates. -/
def mat (w : Vec Ideal S2816x4096 .bf16) : Fin 2816 → Fin 4096 → EReal := fun i k => w (ix2 i k)

def dyqR (X : Vec Ideal S32768x4096 .bf16) : Vec Ideal S32768x4096 .fp8e5m2 := fun y =>
  clip 0xC7600000#32 0x47600000#32 (X y) (invR (pY (rowY X (y 0))))
def dysR (X : Vec Ideal S32768x4096 .bf16) : Vec Ideal S32768x1 .f32 := fun y => scaleR (pY (rowY X (y 0)))
def wqR (w : Vec Ideal S2816x4096 .bf16) : Vec Ideal S2816x4096 .fp8e4m3 := fun y =>
  clip 0xC3E00000#32 0x43E00000#32 (w y) (invR (pW (mat w)))
def wsR (w : Vec Ideal S2816x4096 .bf16) : Vec Ideal S1x1 .f32 := fun _ => scaleR (pW (mat w))
def dxR (X : Vec Ideal S32768x4096 .bf16) (w : Vec Ideal S2816x4096 .bf16) : Vec Ideal S32768x2816 .bf16 := fun y =>
  (∑ k : Fin 4096, dyqR X (ix2 (y 0) k) * wqR w (ix2 (y 1) k)) * (scaleR (pY (rowY X (y 0))) * scaleR (pW (mat w)))

theorem arr_wq (c : Dev nD) : (dats m 0 c).arrAt 3 cfg0.N = wqR (wIn m c) := by
  refine (dats m 0 c).arrAt_eq_of_covers 3 _ (by decide +kernel) fun t hf y => ?_
  blk_simp
  rw [after0_3, iblk0, iblk1, out3]
  obtain ⟨i, k, rfl⟩ : ∃ (i : Fin 2816) (k : Fin 4096), y = ix2 i k := ⟨y 0, y 1, eq_ix2 y⟩
  exact (wq_at (wIn m c) i k).trans (congrArg (wqR (wIn m c)) (emb3 t i k).symm)

theorem arr_ws (c : Dev nD) : (dats m 0 c).arrAt 4 cfg0.N = wsR (wIn m c) := by
  refine (dats m 0 c).arrAt_eq_of_covers 4 _ (by decide +kernel) fun t hf y => ?_
  blk_simp
  rw [after0_4, iblk0, iblk1, out4]
  obtain rfl : y = ix2 0 0 := by
    rw [eq_ix2 y]
    congr 1 <;> exact Subsingleton.elim (α := Fin 1) _ _
  exact ws_at (wIn m c)

theorem arr_dyq (c : Dev nD) : (dats m 0 c).arrAt 5 cfg0.N = dyqR (yIn m c) := by
  refine (dats m 0 c).arrAt_eq_of_covers 5 _ (by decide +kernel) fun t hf y => ?_
  blk_simp
  rw [after0_5, iblk0, iblk1, out5]
  obtain ⟨i, k, rfl⟩ : ∃ (i : Fin 32768) (k : Fin 4096), y = ix2 i k := ⟨y 0, y 1, eq_ix2 y⟩
  exact (dyq_at (yIn m c) i k).trans (congrArg (dyqR (yIn m c)) (emb5 t i k).symm)

theorem column (y : S32768x1.Idx) : y = ix2 (y 0) 0 := funext fun a => match a with
  | ⟨0, _⟩ => rfl
  | ⟨1, _⟩ => Subsingleton.elim (α := Fin 1) _ _

theorem dys_val (X : Vec Ideal S32768x4096 .bf16) (i : Fin 32768) :
    k0_pay3 (F := Ideal) (k0_pay11 X) (k0_pay12 X) (Scalar.ofBits .f32 0x40000000#32) (ix2 i 0) = dysR X (ix2 i 0) := by
  rw [dys_at]
  unfold dysR rowY
  exact congrArg (fun r => scaleR (pY fun k => X (ix2 r k))) rfl

theorem arr_dys (c : Dev nD) : (dats m 0 c).arrAt 6 cfg0.N = dysR (yIn m c) := by
  refine (dats m 0 c).arrAt_eq_of_covers 6 _ (by decide +kernel) fun t hf y => ?_
  blk_simp
  rw [after0_6, iblk0, iblk1, out6]
  obtain ⟨i, rfl⟩ : ∃ i : Fin 32768, y = ix2 i 0 := ⟨y 0, column y⟩
  exact (dys_val (yIn m c) i).trans (congrArg (dysR (yIn m c)) (emb6 t i).symm)

theorem dx_val (X : Vec Ideal S32768x4096 .bf16) (w : Vec Ideal S2816x4096 .bf16) (i : Fin 32768) (k : Fin 2816) :
    k0_pay4 (F := Ideal) (k0_pay7 w) (k0_pay8 w) (k0_pay9 X) (k0_pay11 X) (k0_pay12 X) (Scalar.ofBits .f32 0x40000000#32) (ix2 i k) = dxR X w (ix2 i k) := by
  rw [dx_at, dys_at, ws_at]
  refine congrArg (· * _) (Finset.sum_congr rfl fun x _ => ?_)
  rw [dyq_at, wq_at]
  rfl

theorem arr_dx (c : Dev nD) : (dats m 0 c).arrAt 2 cfg0.N = dxR (yIn m c) (wIn m c) := by
  refine (dats m 0 c).arrAt_eq_of_covers 2 _ (by decide +kernel) fun t hf y => ?_
  blk_simp
  rw [after0_2, iblk0, iblk1, out2]
  obtain ⟨i, k, rfl⟩ : ∃ (i : Fin 32768) (k : Fin 2816), y = ix2 i k := ⟨y 0, y 1, eq_ix2 y⟩
  exact (dx_val (yIn m c) (wIn m c) i k).trans (congrArg (dxR (yIn m c) (wIn m c)) (emb2 t i k).symm)

end Cert.Refs

end
-- ==== Proof.RefResults.lean ====
module

public import proofs.«01_k».proof.Proof.RefArrays
public import Idealize.ShloMosaic.Lib.Claim
public import Idealize.ShloMosaic.Lib.StableHlo.RunRead

/-! The reference's results after the last host operations, as functions of the two arguments. -/

@[expose] public section

set_option maxRecDepth 65536

noncomputable section

namespace Cert.Refs

open Cert.ReferenceIdeal Cert.ReferenceIdeal.Gen
open Cert.Scale Cert.Values
open Idealize.ShloMosaic Idealize.ShloMosaic.TcCoe
open Idealize.SL.Sem

variable (m : (ℓ : Loc nD τ sig) → Buf (Elt Ideal) ℓ)

/-- The rows of the gradient. -/
abbrev rowsOf (x : Vec Ideal S4x8192x4096 .bf16) : Vec Ideal S32768x4096 .bf16 := shapeCast S32768x4096 x shapeCasts_S4x8192x4096_S32768x4096

theorem yIn_eq (c : Dev nD) : yIn m c = rowsOf (m ((c.tc : Thread nD τ).loc main_arg0)) := by
  show V m c main_v0 = _
  unfold V V0
  simp only [hostOps0, List.flatten_cons, List.flatten_nil, List.append_nil]
  after_results
  rfl

theorem wIn_eq (c : Dev nD) : wIn m c = m ((c.tc : Thread nD τ).loc main_arg1) := V_main_arg1 m c

theorem after_other (U : Valuation τ sig (Elt Ideal)) (b : Ref sig .tc) (h1 : b ∉ ({main_v2, main_v3, main_v4} : Finset (Ref sig .tc))) :
    StableHlo.after [hostOps1].flatten U (Proc.devRef .tc b) = U (Proc.devRef .tc b) := by
  simp only [Finset.mem_insert, Finset.mem_singleton, not_or] at h1
  exact StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h1.1, StableHlo.devRef_ne_of_ne h1.2.1, StableHlo.devRef_ne_of_ne h1.2.2⟩))

theorem after_v2 (U : Valuation τ sig (Elt Ideal)) : (StableHlo.after [hostOps1].flatten U (Proc.devRef .tc main_v2) : Vec Ideal S4x8192x2816 .bf16)
    = shapeCast S4x8192x2816 (U (Proc.devRef .tc main_v1_0) : Vec Ideal S32768x2816 .bf16) shapeCasts_S32768x2816_S4x8192x2816 := by
  simp only [hostOps1, List.flatten_cons, List.flatten_nil, List.append_nil]
  after_results
  rfl
theorem after_v3 (U : Valuation τ sig (Elt Ideal)) : (StableHlo.after [hostOps1].flatten U (Proc.devRef .tc main_v3) : Vec Ideal S4x8192x4096 .fp8e5m2)
    = shapeCast S4x8192x4096 (U (Proc.devRef .tc main_v1_3) : Vec Ideal S32768x4096 .fp8e5m2) shapeCasts_S32768x4096_S4x8192x4096 := by
  simp only [hostOps1, List.flatten_cons, List.flatten_nil, List.append_nil]
  after_results
  rfl
theorem after_v4 (U : Valuation τ sig (Elt Ideal)) : (StableHlo.after [hostOps1].flatten U (Proc.devRef .tc main_v4) : Vec Ideal S4x8192x1 .f32)
    = shapeCast S4x8192x1 (U (Proc.devRef .tc main_v1_4) : Vec Ideal S32768x1 .f32) shapeCasts_S32768x1_S4x8192x1 := by
  simp only [hostOps1, List.flatten_cons, List.flatten_nil, List.append_nil]
  after_results
  rfl

theorem W_arr (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c _ _ w

/-- What the reference's run leaves in its five results. -/
theorem reference_run (ρ : Dev nD → PrngReg) : θ_run defs (onTc (τ := τ) (main (F := Ideal))) ⟨m, fun _ => 0, ρ⟩ (fun r => ∀ c : Dev nD,
      r.2.mem ((c.tc : Thread nD τ).loc main_v2) = shapeCast S4x8192x2816 (dxR (rowsOf (m ((c.tc : Thread nD τ).loc main_arg0))) (m ((c.tc : Thread nD τ).loc main_arg1))) shapeCasts_S32768x2816_S4x8192x2816
      ∧ r.2.mem ((c.tc : Thread nD τ).loc main_v1_1) = wqR (m ((c.tc : Thread nD τ).loc main_arg1))
      ∧ r.2.mem ((c.tc : Thread nD τ).loc main_v1_2) = wsR (m ((c.tc : Thread nD τ).loc main_arg1))
      ∧ r.2.mem ((c.tc : Thread nD τ).loc main_v3) = shapeCast S4x8192x4096 (dyqR (rowsOf (m ((c.tc : Thread nD τ).loc main_arg0)))) shapeCasts_S32768x4096_S4x8192x4096
      ∧ r.2.mem ((c.tc : Thread nD τ).loc main_v4) = shapeCast S4x8192x1 (dysR (rowsOf (m ((c.tc : Thread nD τ).loc main_arg0)))) shapeCasts_S32768x1_S4x8192x1
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h => ?_) (θ_run_and (Cert.ReferenceIdeal.Gen.unchanged m ρ) (run_main m ρ))
  intro c
  obtain ⟨hf, hp⟩ := h
  have rest (b : Ref sig .tc) (hb : b ∈ Pipeline.restRefs sig spec0) : r.2.mem ((c.tc : Thread nD τ).loc b)
      = StableHlo.after [hostOps1].flatten (Pipeline.withArrays spec0 c (V0 m c) (fun w => (dats m 0 c).arrAt w cfg0.N)) (Proc.devRef .tc b) := (hp c).2 b hb
  refine ⟨?_, ?_, ?_, ?_, ?_, hf c⟩
  · rw [rest main_v2 (Pipeline.mem_restRefs_of main_v2 (by decide) (by decide)), after_v2,
      show Pipeline.withArrays spec0 c (V0 m c) (fun w => (dats m 0 c).arrAt w cfg0.N) (Proc.devRef .tc main_v1_0) = _ from W_arr m c 2, arr_dx, yIn_eq, wIn_eq]
  · exact ((hp c).1 3).trans ((arr_wq m c).trans (by rw [wIn_eq]))
  · exact ((hp c).1 4).trans ((arr_ws m c).trans (by rw [wIn_eq]))
  · rw [rest main_v3 (Pipeline.mem_restRefs_of main_v3 (by decide) (by decide)), after_v3,
      show Pipeline.withArrays spec0 c (V0 m c) (fun w => (dats m 0 c).arrAt w cfg0.N) (Proc.devRef .tc main_v1_3) = _ from W_arr m c 5, arr_dyq, yIn_eq]
  · rw [rest main_v4 (Pipeline.mem_restRefs_of main_v4 (by decide) (by decide)), after_v4,
      show Pipeline.withArrays spec0 c (V0 m c) (fun w => (dats m 0 c).arrAt w cfg0.N) (Proc.devRef .tc main_v1_4) = _ from W_arr m c 6, arr_dys, yIn_eq]

end Cert.Refs

end
-- ==== Proof.Algebra.lean ====
module

public import proofs.«01_k».proof.Defs
public import proofs.«01_k».proof.Proof.Bounds
public import proofs.«01_k».proof.Proof.Results
public import proofs.«01_k».proof.Proof.RefResults
public import proofs.«01_k».proof.Proof.Gen.Kernel
public import Idealize.ShloMosaic.Lib.Pointwise

/-! The kernel's five results are the reference's. -/

@[expose] public section

set_option maxRecDepth 65536

noncomputable section

namespace Cert.Values

open Cert.KernelIdeal Cert.KernelIdeal.Gen Cert.KernelIdeal.Hand
open Cert.Scale Cert.Refs
open Idealize.ShloMosaic Idealize.ShloMosaic.TcCoe
open Idealize.SL.Sem

section Arrays
variable (X : Vec Ideal S32768x4096 .bf16) (w : Vec Ideal S2816x4096 .bf16) (hX : ∀ i, ab (X i) ≤ big) (hw : ∀ i, ab (w i) ≤ big)

include hX in
theorem row_scale (r : Fin 32768) : scaleK (pY (rowX X r)) = scaleR (pY (rowX X r)) ∧ invK (pY (rowX X r)) = invR (pY (rowX X r)) :=
  pY_scale _ fun k => hX _

include hw in
theorem mat_scale : scaleK (pW (mat w)) = scaleR (pW (mat w)) ∧ invK (pW (mat w)) = invR (pW (mat w)) :=
  pW_scale _ fun i k => hw _

include hX in
theorem dyq_same : dyqG X = dyqR X := funext fun y => congrArg (clip _ _ (X y)) (row_scale X hX (y 0)).2

include hw in
theorem wq_same_at (i : Fin 2816) (k : Fin 4096) : WQ (F := Ideal) w (ix2 i k) = wqR w (ix2 i k) :=
  (WQ_at w i k).trans (congrArg (clip _ _ (w (ix2 i k))) (mat_scale w hw).2)

include hw in
theorem wq_same : WQ (F := Ideal) w = wqR w := by
  funext y
  obtain ⟨i, k, rfl⟩ : ∃ (i : Fin 2816) (k : Fin 4096), y = ix2 i k := ⟨y 0, y 1, eq_ix2 y⟩
  exact wq_same_at w hw i k

include hw in
theorem ws_same : wsV (F := Ideal) w = wsR w := by
  funext y
  rw [one_idx y (ix2 0 0), wsV_at]
  exact (mat_scale w hw).1

include hX hw in
theorem dx_same : dxG X w = dxR X w := by
  funext y
  unfold dxG dxR
  rw [dyq_same X hX, wq_same w hw]
  exact congrArg (_ * ·) (congr (congrArg HMul.hMul (row_scale X hX (y 0)).1) (mat_scale w hw).1)

include hX in
theorem dys_same_at (a : Fin 4) (b : Fin 8192) :
    shapeCast S4x8192x1 (dysG X) shapeCasts_S64x4x128_S4x8192x1 (ix3 a b 0)
      = shapeCast S4x8192x1 (dysR X) Cert.ReferenceIdeal.Gen.shapeCasts_S32768x1_S4x8192x1 (ix3 a b 0) := by
  pointwise []
  have h : a.val * 8192 + b.val < 32768 := by omega
  refine Eq.trans (congrArg (fun r => scaleK (pY (rowX X r))) (Fin.ext ?_ : _ = (⟨a.val * 8192 + b.val, h⟩ : Fin 32768))) (row_scale X hX ⟨a.val * 8192 + b.val, h⟩).1
  show 512 * (a.val * 16 + b.val / 512) + 128 * (b.val / 128 % 4) + b.val % 128 = a.val * 8192 + b.val
  omega

include hX in
theorem dys_same : shapeCast S4x8192x1 (dysG X) shapeCasts_S64x4x128_S4x8192x1
      = shapeCast S4x8192x1 (dysR X) Cert.ReferenceIdeal.Gen.shapeCasts_S32768x1_S4x8192x1 := by
  funext y
  obtain ⟨a, b, rfl⟩ : ∃ (a : Fin 4) (b : Fin 8192), y = ix3 a b 0 := ⟨y 0, y 1, funext fun k => match k with
    | ⟨0, _⟩ => rfl
    | ⟨1, _⟩ => rfl
    | ⟨2, _⟩ => Subsingleton.elim (α := Fin 1) _ _⟩
  exact dys_same_at X hX a b

end Arrays

end Cert.Values

namespace Cert.Proof

open Idealize.ShloMosaic Idealize.SL.Sem
open Cert.Values Cert.Refs

/-- The five results of the kernel are the reference's, wherever the arguments are finite. -/
theorem algebraic : Cert.algebraic_KernelIdeal_ReferenceIdeal_pre_in_range := by
  intro m g m' g' hpre hagree
  have hb (c : Dev Cert.KernelIdeal.nD) := in_range _ _ (hpre c)
  refine ⟨_, _, _, _, _, kernel_run m g, ?_⟩
  refine (θ_run Cert.ReferenceIdeal.defs _ _).mono (fun r h c => ?_) (reference_run m' g')
  obtain ⟨h0, h1, h2, h3, h4, h5⟩ := h c
  obtain ⟨e0, e1⟩ := hagree c
  obtain ⟨hx, hw⟩ := hb c
  have hX : ∀ i, ab (Cert.Values.rowsOf (m ((c.tc : Thread Cert.KernelIdeal.nD Cert.KernelIdeal.τ).loc Cert.KernelIdeal.main_arg0)) i) ≤ big := fun i => hx _
  refine ⟨h0.trans ?_, h1.trans ?_, h2.trans ?_, h3.trans ?_, h4.trans ?_, h5⟩
  · rw [e0, e1, dx_same _ _ hX hw]
  · rw [e1, wq_same _ hw]
  · rw [e1, ws_same _ hw]
  · rw [e0, dyq_same _ hX]
  · rw [e0, dys_same _ hX]

end Cert.Proof

end
-- ==== Proof.lean ====
/- The proof of the certificate's claims: the frames of the three programs, and the equality of the kernel's five results with the
   reference's over the extended reals. -/
module

public import proofs.«01_k».proof.Defs
public import proofs.«01_k».proof.Proof.Frames
public import proofs.«01_k».proof.Proof.Gen.Kernel
public import proofs.«01_k».proof.Proof.Gen.KernelIdeal
public import proofs.«01_k».proof.Proof.Gen.ReferenceIdeal.Frame
public import proofs.«01_k».proof.Proof.Gen.Pre_in_range
public import proofs.«01_k».proof.Proof.Algebra
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, Cert.Proof.algebraic⟩

end Cert.Proof

end
